-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_format [hPre_in_format : Cert.Pre_in_format.Facts] (m : (ℓ : Loc Cert.KernelIdeal.nD Cert.KernelIdeal.τ Cert.KernelIdeal.sig) → Buf (Elt Ideal) ℓ) : Prop :=
  ∀ c : Dev Cert.KernelIdeal.nD,
    (Cert.Pre_in_format.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_format [hPre_in_format : Cert.Pre_in_format.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_format.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_format [hKernelIdeal : Cert.KernelIdeal.Facts] [hPre_in_format : Cert.Pre_in_format.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_format m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_format [hReferenceIdeal : Cert.ReferenceIdeal.Facts] [hPre_in_format : Cert.Pre_in_format.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_format m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_format [hKernelIdeal : Cert.KernelIdeal.Facts] [hReferenceIdeal : Cert.ReferenceIdeal.Facts] [hPre_in_format : Cert.Pre_in_format.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_format m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_format : Cert.Pre_in_format.Facts),
    quiescent_Kernel (hKernel := hKernel)
    ∧ quiescent_KernelIdeal (hKernelIdeal := hKernelIdeal)
    ∧ quiescent_KernelIdeal_pre_in_format (hKernelIdeal := hKernelIdeal) (hPre_in_format := hPre_in_format)
    ∧ quiescent_ReferenceIdeal (hReferenceIdeal := hReferenceIdeal)
    ∧ quiescent_ReferenceIdeal_pre_in_format (hReferenceIdeal := hReferenceIdeal) (hPre_in_format := hPre_in_format)
    ∧ preserves_Kernel_KernelIdeal
    ∧ algebraic_KernelIdeal_ReferenceIdeal_pre_in_format (hKernelIdeal := hKernelIdeal) (hReferenceIdeal := hReferenceIdeal) (hPre_in_format := hPre_in_format)
-- ==== Pre_in_format.lean ====
abbrev S4x1024x1408 : Shape := ⟨3, ![4, 1024, 1408]⟩
abbrev S4x1024x4224 : Shape := ⟨3, ![4, 1024, 4224]⟩
abbrev S1408x4224 : Shape := ⟨2, ![1408, 4224]⟩
abbrev S_ : Shape := ⟨0, ![]⟩

class Facts : Prop where
  bcast_S_S4x1024x1408 : S_.BroadcastsInDim S4x1024x1408 (![] : Fin 0 → Fin S4x1024x1408.rank)
  reducesTo_S4x1024x1408_S_d0_1_2 : S4x1024x1408.ReducesTo [0, 1, 2] S_
  h_S_ : 0 < S_.numel
  bcast_S_S4x1024x4224 : S_.BroadcastsInDim S4x1024x4224 (![] : Fin 0 → Fin S4x1024x4224.rank)
  reducesTo_S4x1024x4224_S_d0_1_2 : S4x1024x4224.ReducesTo [0, 1, 2] S_

variable [Facts]

def fn {F : FTy → Type} [FloatOps F] (main_arg0 : FVec F S4x1024x1408 .bf16) (main_arg1 : FVec F S4x1024x4224 .bf16) (main_arg2 : FVec F S1408x4224 .f32) : IVec S_ 1 :=
  let main_v0 : FVec F S4x1024x1408 .bf16 := Host.absf main_arg0
  let main_v1 : FVec F S4x1024x4224 .bf16 := Host.absf main_arg1
  let main_cst : FVec F S_ .bf16 := constant S_ .bf16 0x7F7F#16
  let main_v2 : FVec F S4x1024x1408 .bf16 := broadcastInDim S4x1024x1408 ![] bcast_S_S4x1024x1408 main_cst
  let main_v3 : IVec S4x1024x1408 1 := cmpf .ole main_v0 main_v2
  let main_cst_0 : FVec F S_ .bf16 := constant S_ .bf16 0x7F80#16
  let main_v4 : FVec F S4x1024x1408 .bf16 := broadcastInDim S4x1024x1408 ![] bcast_S_S4x1024x1408 main_cst_0
  let main_v5 : IVec S4x1024x1408 1 := cmpf .oeq main_v0 main_v4
  let main_v6 : IVec S4x1024x1408 1 := ori main_v3 main_v5
  let main_c : IVec S_ 1 := constantI S_ 1 1#1
  let main_v7 : IVec S_ 1 := (fun x v => Host.reduce IntOp.andi x v reducesTo_S4x1024x1408_S_d0_1_2 h_S_) main_v6 main_c
  let main_cst_1 : FVec F S_ .bf16 := constant S_ .bf16 0x7F7F#16
  let main_v8 : FVec F S4x1024x4224 .bf16 := broadcastInDim S4x1024x4224 ![] bcast_S_S4x1024x4224 main_cst_1
  let main_v9 : IVec S4x1024x4224 1 := cmpf .ole main_v1 main_v8
  let main_cst_2 : FVec F S_ .bf16 := constant S_ .bf16 0x7F80#16
  let main_v10 : FVec F S4x1024x4224 .bf16 := broadcastInDim S4x1024x4224 ![] bcast_S_S4x1024x4224 main_cst_2
  let main_v11 : IVec S4x1024x4224 1 := cmpf .oeq main_v1 main_v10
  let main_v12 : IVec S4x1024x4224 1 := ori main_v9 main_v11
  let main_c_3 : IVec S_ 1 := constantI S_ 1 1#1
  let main_v13 : IVec S_ 1 := (fun x v => Host.reduce IntOp.andi x v reducesTo_S4x1024x4224_S_d0_1_2 h_S_) main_v12 main_c_3
  let main_v14 : IVec S_ 1 := andi main_v7 main_v13
  main_v14
-- ==== Kernel.lean ====
abbrev S4x1024x1408 : Shape := ⟨3, ![4, 1024, 1408]⟩
abbrev S4x1024x4224 : Shape := ⟨3, ![4, 1024, 4224]⟩
abbrev S1408x4224 : Shape := ⟨2, ![1408, 4224]⟩
abbrev S4096x1408 : Shape := ⟨2, ![4096, 1408]⟩
abbrev S4096x4224 : Shape := ⟨2, ![4096, 4224]⟩
abbrev S1x1408 : Shape := ⟨2, ![1, 1408]⟩
abbrev S1408x4096 : Shape := ⟨2, ![1408, 4096]⟩
abbrev S4096x128 : Shape := ⟨2, ![4096, 128]⟩
abbrev S1x128 : Shape := ⟨2, ![1, 128]⟩
abbrev S128x4096 : Shape := ⟨2, ![128, 4096]⟩
abbrev S128 : Shape := ⟨1, ![128]⟩
abbrev S1408x1 : Shape := ⟨2, ![1408, 1]⟩
abbrev S1x4224 : Shape := ⟨2, ![1, 4224]⟩
abbrev S4096x256 : Shape := ⟨2, ![4096, 256]⟩
abbrev S1408x256 : Shape := ⟨2, ![1408, 256]⟩
abbrev S1x256 : Shape := ⟨2, ![1, 256]⟩
abbrev S256 : Shape := ⟨1, ![256]⟩
abbrev S1408 : Shape := ⟨1, ![1408]⟩
abbrev S4224 : Shape := ⟨1, ![4224]⟩

abbrev nBuf : Space → Nat
  | .hbm => 16
  | .vmem => 20
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x4224, .bf16⟩
  | .hbm, ⟨2, _⟩ => ⟨S1408x4224, .f32⟩
  | .hbm, ⟨3, _⟩ => ⟨S4096x1408, .bf16⟩
  | .hbm, ⟨4, _⟩ => ⟨S4096x4224, .bf16⟩
  | .hbm, ⟨5, _⟩ => ⟨S4096x1408, .fp8e4m3⟩
  | .hbm, ⟨6, _⟩ => ⟨S1x1408, .f32⟩
  | .hbm, ⟨7, _⟩ => ⟨S1408x4096, .fp8e4m3⟩
  | .hbm, ⟨8, _⟩ => ⟨S1408x1, .f32⟩
  | .hbm, ⟨9, _⟩ => ⟨S1408x4224, .f32⟩
  | .hbm, ⟨10, _⟩ => ⟨S4096x4224, .fp8e5m2⟩
  | .hbm, ⟨11, _⟩ => ⟨S1x4224, .f32⟩
  | .hbm, ⟨12, _⟩ => ⟨S4x1024x1408, .fp8e4m3⟩
  | .hbm, ⟨13, _⟩ => ⟨S1408, .f32⟩
  | .hbm, ⟨14, _⟩ => ⟨S4x1024x4224, .fp8e5m2⟩
  | .hbm, ⟨15, _⟩ => ⟨S4224, .f32⟩
  | .local _ .vmem, ⟨0, _⟩ => ⟨S4096x128, .bf16⟩
  | .local _ .vmem, ⟨1, _⟩ => ⟨S4096x128, .bf16⟩
  | .local _ .vmem, ⟨2, _⟩ => ⟨S4096x128, .fp8e4m3⟩
  | .local _ .vmem, ⟨3, _⟩ => ⟨S4096x128, .fp8e4m3⟩
  | .local _ .vmem, ⟨4, _⟩ => ⟨S1x128, .f32⟩
  | .local _ .vmem, ⟨5, _⟩ => ⟨S1x128, .f32⟩
  | .local _ .vmem, ⟨6, _⟩ => ⟨S128x4096, .fp8e4m3⟩
  | .local _ .vmem, ⟨7, _⟩ => ⟨S128x4096, .fp8e4m3⟩
  | .local _ .vmem, ⟨8, _⟩ => ⟨S4096x256, .bf16⟩
  | .local _ .vmem, ⟨9, _⟩ => ⟨S4096x256, .bf16⟩
  | .local _ .vmem, ⟨10, _⟩ => ⟨S1408x4096, .fp8e4m3⟩
  | .local _ .vmem, ⟨11, _⟩ => ⟨S1408x1, .f32⟩
  | .local _ .vmem, ⟨12, _⟩ => ⟨S1408x256, .f32⟩
  | .local _ .vmem, ⟨13, _⟩ => ⟨S1408x256, .f32⟩
  | .local _ .vmem, ⟨14, _⟩ => ⟨S1408x256, .f32⟩
  | .local _ .vmem, ⟨15, _⟩ => ⟨S1408x256, .f32⟩
  | .local _ .vmem, ⟨16, _⟩ => ⟨S4096x256, .fp8e5m2⟩
  | .local _ .vmem, ⟨17, _⟩ => ⟨S4096x256, .fp8e5m2⟩
  | .local _ .vmem, ⟨18, _⟩ => ⟨S1x256, .f32⟩
  | .local _ .vmem, ⟨19, _⟩ => ⟨S1x256, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1408x4096 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1408x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1408x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1408x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x256 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S4x1024x1408 : Shape := ⟨3, ![4, 1024, 1408]⟩
abbrev S4x1024x4224 : Shape := ⟨3, ![4, 1024, 4224]⟩
abbrev S1408x4224 : Shape := ⟨2, ![1408, 4224]⟩
abbrev S1408 : Shape := ⟨1, ![1408]⟩
abbrev S4224 : Shape := ⟨1, ![4224]⟩
abbrev S4096x1408 : Shape := ⟨2, ![4096, 1408]⟩
abbrev S4096x4224 : Shape := ⟨2, ![4096, 4224]⟩
abbrev S1x1408 : Shape := ⟨2, ![1, 1408]⟩
abbrev S1x4224 : Shape := ⟨2, ![1, 4224]⟩
abbrev S1408x1 : Shape := ⟨2, ![1408, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x4224, .bf16⟩
  | .hbm, ⟨2, _⟩ => ⟨S1408x4224, .f32⟩
  | .hbm, ⟨3, _⟩ => ⟨S1408x4224, .f32⟩
  | .hbm, ⟨4, _⟩ => ⟨S4x1024x1408, .fp8e4m3⟩
  | .hbm, ⟨5, _⟩ => ⟨S1408, .f32⟩
  | .hbm, ⟨6, _⟩ => ⟨S4x1024x4224, .fp8e5m2⟩
  | .hbm, ⟨7, _⟩ => ⟨S4224, .f32⟩
  | .local _ .vmem, ⟨0, _⟩ => ⟨S4x1024x1408, .bf16⟩
  | .local _ .vmem, ⟨1, _⟩ => ⟨S4x1024x4224, .bf16⟩
  | .local _ .vmem, ⟨2, _⟩ => ⟨S1408x4224, .f32⟩
  | .local _ .vmem, ⟨3, _⟩ => ⟨S1408x4224, .f32⟩
  | .local _ .vmem, ⟨4, _⟩ => ⟨S4x1024x1408, .fp8e4m3⟩
  | .local _ .vmem, ⟨5, _⟩ => ⟨S1408, .f32⟩
  | .local _ .vmem, ⟨6, _⟩ => ⟨S4x1024x4224, .fp8e5m2⟩
  | .local _ .vmem, ⟨7, _⟩ => ⟨S4224, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x1024x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1408x4224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1408x4224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x1408 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x4224 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.BodyK.lean ====
/- The two kernel bodies on whole staging buffers: each reads its inputs' buffers and leaves each output's buffer at a
   function of what the inputs' held. At any float instance. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the bodies leave, as functions of what they read -/

/-- The exponent fields the search over the x block's columns ends with. -/
def expo0 (x : Vec F S4096x128 .bf16) : IVec S1x128 32 := k0_pay9 (k0_pay6 x) (k0_pay7 x) (k0_pay8 x) 16#32
/-- Whether a column's exponent field is 0 or 255. -/
def flat0 (x : Vec F S4096x128 .bf16) : IVec S1x128 1 := k0_pay10 (k0_pay6 x) (k0_pay7 x) (k0_pay8 x) 16#32
/-- The x block's codes. -/
def codes0 (x : Vec F S4096x128 .bf16) : Vec F S4096x128 .fp8e4m3 := k0_pay3 (k0_pay5 x) (expo0 x) (flat0 x) k0_pay11
/-- The x block's scales. -/
def scale0 (x : Vec F S4096x128 .bf16) : Vec F S1x128 .f32 := k0_pay2 (expo0 x) (flat0 x) k0_pay11
/-- The x block's codes, transposed. -/
def codesT0 (x : Vec F S4096x128 .bf16) : Vec F S128x4096 .fp8e4m3 := k0_pay4 (k0_pay5 x) (expo0 x) (flat0 x) k0_pay11

/-- The exponent fields the search over the dy block's columns ends with. -/
def expo1 (y : Vec F S4096x256 .bf16) : IVec S1x256 32 := k1_pay5 (k1_pay2 y) (k1_pay3 y) (k1_pay4 y) 16#32
/-- Whether a column's exponent field is 0 or 255. -/
def flat1 (y : Vec F S4096x256 .bf16) : IVec S1x256 1 := k1_pay6 (k1_pay2 y) (k1_pay3 y) (k1_pay4 y) 16#32
/-- The dy block's codes. -/
def codes1 (y : Vec F S4096x256 .bf16) : Vec F S4096x256 .fp8e5m2 := k1_pay10 (k1_pay1 y) (expo1 y) (flat1 y) k1_pay7
/-- The dy block's scales. -/
def scale1 (y : Vec F S4096x256 .bf16) : Vec F S1x256 .f32 := k1_pay9 (expo1 y) (flat1 y) k1_pay7
/-- The block of the weight gradient added to main_grad's. -/
def grad1 (y : Vec F S4096x256 .bf16) (xt : Vec F S1408x4096 .fp8e4m3) (xs : Vec F S1408x1 .f32) (g : Vec F S1408x256 .f32) : Vec F S1408x256 .f32 :=
  k1_pay11 (k1_pay1 y) (expo1 y) (flat1 y) k1_pay7 xt g xs

/-! ## Whole-buffer loads and stores -/

/-- A zero offset of rank two. -/
theorem off2 : (![0, 0] : Fin 2 → ℕ) = fun _ => 0 := by decide

/-- What one store over the whole of a buffer leaves there is the stored vector. -/
theorem read_one {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon _ _ _ (fun y => ⟨_, List.mem_singleton_self _, by
    subst h; show y ∈ (Rect.whole S).set; rw [Rect.set_whole]; exact Finset.mem_univ y⟩)).trans (View.canon_unit_zero h inb w)

/-- The gradient block read through whole-buffer loads is the gradient block of the buffers' contents. -/
theorem grad1_ld (y : Vec F S4096x256 .bf16) (xt : Vec F S1408x4096 .fp8e4m3) (xs : Vec F S1408x1 .f32) (g : Vec F S1408x256 .f32) :
    grad1 (View.ld y (Rect.unit (s := S4096x256) ![0, 0] S4096x256.size inb_S4096x256_S4096x256_0_0))
      (View.ld xt (Rect.unit (s := S1408x4096) ![0, 0] S1408x4096.size inb_S1408x4096_S1408x4096_0_0))
      (View.ld xs (Rect.unit (s := S1408x1) ![0, 0] S1408x1.size inb_S1408x1_S1408x1_0_0))
      (View.ld g (Rect.unit (s := S1408x256) ![0, 0] S1408x256.size inb_S1408x256_S1408x256_0_0)) = grad1 y xt xs g := by
  rw [View.ld_unit_zero off2, View.ld_unit_zero off2, View.ld_unit_zero off2, View.ld_unit_zero off2]

/-! ## The bodies' triples -/

set_option maxHeartbeats 1000000 in
/-- The quantiser's body: from the x block's buffer at `x` and the outputs' at anything, to the outputs' at the codes, the
    scales and the transposed codes of `x`. -/
theorem sound_body0 (c : Dev nD) (E : Set ℕ) (i : grid0.Coords) (arg1 : Memref sig .tc .vmem S4096x128 .bf16) (harg1 : arg1.IsWhole) (arg2 : Memref sig .tc .vmem S4096x128 .fp8e4m3) (harg2 : arg2.IsWhole) (arg3 : Memref sig .tc .vmem S1x128 .f32) (harg3 : arg3.IsWhole) (arg4 : Memref sig .tc .vmem S128x4096 .fp8e4m3) (harg4 : arg4.IsWhole)
    (x : Vec F S4096x128 .bf16) (K : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg1 fullShare x ∗ owns (c : Thread nD τ) arg2 fullShare (codes0 x) ∗ owns (c : Thread nD τ) arg3 fullShare (scale0 x) ∗ owns (c : Thread nD τ) arg4 fullShare (codesT0 x)) -∗ K ⟨⟩))
      ⊢ wp frame (wpE (defs₀ (F := F)) Variants.none c none) E (cc0_quantise_x i arg1 harg1 arg2 harg2 arg3 harg3 arg4 harg4) K := by
  simp only [cc0_quantise_x_eq_skeleton]; unfold cc0_quantise_x_skel
  simp only [k0_part1_eq_skeleton, k0_part2_eq_skeleton]
  unfold owns
  iintro ⟨⟨%f1, %hf1, H1⟩, ⟨%d2, %f2, -, H2⟩, ⟨%d3, %f3, -, H3⟩, ⟨%d4, %f4, -, H4⟩, Hk⟩
  subst hf1
  sl_exec
  sl_step
  iapply Hk
  isplitl [H1]
  · iexists f1; isplitr; · ipureintro; rfl
    iexact H1
  isplitl [H2]
  · iexists _; isplitr
    swap; · iexact H2
    ipureintro
    exact (read_one _ _ off2 _ _).trans (congrArg codes0 (View.ld_unit_zero off2 _ _))
  isplitl [H3]
  · iexists _; isplitr
    swap; · iexact H3
    ipureintro
    exact (read_one _ _ off2 _ _).trans (congrArg scale0 (View.ld_unit_zero off2 _ _))
  iexists _; isplitr
  swap; · iexact H4
  ipureintro
  exact (read_one _ _ off2 _ _).trans (congrArg codesT0 (View.ld_unit_zero off2 _ _))

set_option maxHeartbeats 2000000 in
/-- The gradient's body: from the dy block's, the transposed x codes', the x scales' and the main_grad block's buffers at
    `y`, `xt`, `xs` and `g`, and the outputs' at anything, to the outputs' at the gradient block, the dy codes and the dy scales. -/
theorem sound_body1 (c : Dev nD) (E : Set ℕ) (i : grid1.Coords) (arg1 : Memref sig .tc .vmem S4096x256 .bf16) (harg1 : arg1.IsWhole) (arg2 : Memref sig .tc .vmem S1408x4096 .fp8e4m3) (harg2 : arg2.IsWhole) (arg3 : Memref sig .tc .vmem S1408x1 .f32) (harg3 : arg3.IsWhole) (arg4 : Memref sig .tc .vmem S1408x256 .f32) (harg4 : arg4.IsWhole) (arg5 : Memref sig .tc .vmem S1408x256 .f32) (harg5 : arg5.IsWhole) (arg6 : Memref sig .tc .vmem S4096x256 .fp8e5m2) (harg6 : arg6.IsWhole) (arg7 : Memref sig .tc .vmem S1x256 .f32) (harg7 : arg7.IsWhole)
    (y : Vec F S4096x256 .bf16) (xt : Vec F S1408x4096 .fp8e4m3) (xs : Vec F S1408x1 .f32) (g : Vec F S1408x256 .f32) (K : PUnit → sProp 𝕄) :
    iprop(owns (c : Thread nD τ) arg1 fullShare y ∗ owns (c : Thread nD τ) arg2 fullShare xt ∗ owns (c : Thread nD τ) arg3 fullShare xs ∗ owns (c : Thread nD τ) arg4 fullShare g
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare y ∗ owns (c : Thread nD τ) arg2 fullShare xt ∗ owns (c : Thread nD τ) arg3 fullShare xs ∗ owns (c : Thread nD τ) arg4 fullShare g
            ∗ owns (c : Thread nD τ) arg5 fullShare (grad1 y xt xs g) ∗ owns (c : Thread nD τ) arg6 fullShare (codes1 y) ∗ owns (c : Thread nD τ) arg7 fullShare (scale1 y)) -∗ K ⟨⟩))
      ⊢ wp frame (wpE (defs₀ (F := F)) Variants.none c none) E (cc1_dw i arg1 harg1 arg2 harg2 arg3 harg3 arg4 harg4 arg5 harg5 arg6 harg6 arg7 harg7) K := by
  simp only [cc1_dw_eq_skeleton]; unfold cc1_dw_skel
  simp only [k1_part3_eq_skeleton]; unfold k1_part3_skel
  simp only [k1_part1_eq_skeleton, k1_part2_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (read_one _ _ off2 _ _).trans (grad1_ld _ _ _ _)
  isplitl [H6]
  · iexists _; isplitr
    swap; · iexact H6
    ipureintro
    exact (read_one _ _ off2 _ _).trans (congrArg codes1 (View.ld_unit_zero off2 _ _))
  iexists _; isplitr
  swap; · iexact H7
  ipureintro
  exact (read_one _ _ off2 _ _).trans (congrArg scale1 (View.ld_unit_zero off2 _ _))

end Cert.Kernel.Hand

end
-- ==== Proof.DataK.lean ====
/- The two pipelines' proof data, from any contents of the core's buffers at entry, and their body obligations: region 0's
   exactly; region 1's either with its three outputs forgotten, or exactly on the columns inside the array, given that those
   columns of what the body leaves depend on those columns of what it reads. At any float instance. -/
module

public import proofs.«01_k».proof.Proof.BodyK
public import proofs.«01_k».proof.Proof.Gen.Kernel.Regions
public import Idealize.ShloMosaic.Lib.Pipeline.RegionArraysF

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : Dev nD → Valuation τ sig (Elt F))

/-! ## Region 0 -/

/-- The x block at point `t`: 128 columns of the array region 0 reads. -/
def xblk (c : Dev nD) (t : Fin cfg0.N) : Vec F S4096x128 .bf16 :=
  ((cfg0.win 0).blk t).view.read (Elt F) (V c (Proc.devRef .tc (Pipeline.arrRef spec0 0)))

/-- Region 0's proof data: each output's buffer at what the body makes of the x block. -/
def dat0 (c : Dev nD) : Dat τ (Elt F) Unit ℕ (UR sig nD τ) ℕ cfg0 c where
  A w := V c (Proc.devRef .tc (Pipeline.arrRef spec0 w))
  after w t := match w with
    | ⟨0, _⟩ => xblk V c t
    | ⟨1, _⟩ => codes0 (xblk V c t)
    | ⟨2, _⟩ => scale0 (xblk V c t)
    | ⟨3, _⟩ => codesT0 (xblk V c t)
  Φ _ := Pipeline.ΦA spec0 c
  q _ := fullShare
  owed _ := 0

/-- The arrays are as region 0 finds them. -/
theorem A0_eq (c : Dev nD) (w : Fin cfg0.W) : (dat0 V c).A w = V c (Proc.devRef .tc (Pipeline.arrRef spec0 w)) := by dsimp only [dat0]

/-- What window 0 of region 0 holds after a point's body. -/
theorem after0_0 (c : Dev nD) (t : Fin cfg0.N) : (dat0 V c).after 0 t = xblk V c t := by dsimp only [dat0]
/-- What window 1 of region 0 holds after a point's body. -/
theorem after0_1 (c : Dev nD) (t : Fin cfg0.N) : (dat0 V c).after 1 t = codes0 (xblk V c t) := by dsimp only [dat0]
/-- What window 2 of region 0 holds after a point's body. -/
theorem after0_2 (c : Dev nD) (t : Fin cfg0.N) : (dat0 V c).after 2 t = scale0 (xblk V c t) := by dsimp only [dat0]
/-- What window 3 of region 0 holds after a point's body. -/
theorem after0_3 (c : Dev nD) (t : Fin cfg0.N) : (dat0 V c).after 3 t = codesT0 (xblk V c t) := by dsimp only [dat0]

/-- The body finds the x block in its input's buffer. -/
theorem before0_0 (c : Dev nD) (t : Fin cfg0.N) (d) : (dat0 V c).before 0 t d = xblk V c t :=
  ((dat0 V c).before_in_eq_fetched 0 rfl (fun _ => rfl) (fun _ _ _ => rfl) (fun t => by rw [after0_0]; unfold Dat.blockOf xblk; rw [A0_eq]; try rfl) t d).trans
    (by unfold Dat.fetched Dat.blockOf xblk; rw [A0_eq]; try rfl)

/-- What region 0's body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- Region 0's body at any point. -/
theorem sound_point0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_body0 c Set.univ _ _ _ _ _ _ _ _ _ (xblk V c t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is region 0's body. -/
theorem defs₀_row0 (t : Fin cfg0.N) : defs₀ (F := F) .tc cfg0.body (cfg0.bodyArgs t (cfg0.slots t)) = bodyAt0 t := by
  unfold defs₀; rw [Defs.onTc_tc]

/-- Region 0's body obligation. -/
theorem obligation0 (c : Dev nD) : BodyObligation (dat0 V c) (defs₀ (F := F)) Variants.none () Set.univ := fun t => by
  rw [bigSep_W0, bigSep_W0, defs₀_row0]
  exact triple_restated (sound_point0 V c t) rfl .rfl fun _ => .rfl

/-! ## Region 1 -/

/-- The part inside the array of the block of window `w` at point `t`. -/
def rd1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Some element of each element type. -/
def anyElt (F : FTy → Type) [FloatOps F] (e : EltTy) : Elt F e := Classical.arbitrary _

/-- The dy block at point `t`, filled out past the array's end with words nothing reads. -/
def dyblk (c : Dev nD) (t : Fin cfg1.N) : Vec F S4096x256 .bf16 :=
  (cfg1.win 0).fill (cfg1.grid.coords t) (fun _ => anyElt F .bf16) (rd1 V c 0 t)
/-- The transposed x codes, whole. -/
def xtblk (c : Dev nD) (t : Fin cfg1.N) : Vec F S1408x4096 .fp8e4m3 := rd1 V c 1 t
/-- The x scales, whole. -/
def xsblk (c : Dev nD) (t : Fin cfg1.N) : Vec F S1408x1 .f32 := rd1 V c 2 t
/-- The main_grad block at point `t`, filled out past the array's end. -/
def mgblk (c : Dev nD) (t : Fin cfg1.N) : Vec F S1408x256 .f32 :=
  (cfg1.win 3).fill (cfg1.grid.coords t) (fun _ => anyElt F .f32) (rd1 V c 3 t)

/-- Region 1's proof data: each output's buffer at what the body makes of the filled-out blocks. -/
def dat1 (c : Dev nD) : Dat τ (Elt F) Unit ℕ (UR sig nD τ) ℕ cfg1 c where
  A w := V c (Proc.devRef .tc (Pipeline.arrRef spec1 w))
  after w t := match w with
    | ⟨0, _⟩ => dyblk V c t
    | ⟨1, _⟩ => xtblk V c t
    | ⟨2, _⟩ => xsblk V c t
    | ⟨3, _⟩ => mgblk V c t
    | ⟨4, _⟩ => grad1 (dyblk V c t) (xtblk V c t) (xsblk V c t) (mgblk V c t)
    | ⟨5, _⟩ => codes1 (dyblk V c t)
    | ⟨6, _⟩ => scale1 (dyblk V c t)
  Φ _ := Pipeline.ΦA spec1 c
  q _ := fullShare
  owed _ := 0

/-- The arrays are as region 1 finds them. -/
theorem A1_eq (c : Dev nD) (w : Fin cfg1.W) : (dat1 V c).A w = V c (Proc.devRef .tc (Pipeline.arrRef spec1 w)) := by dsimp only [dat1]

/-- What window 0 of region 1 holds after a point's body. -/
theorem after1_0 (c : Dev nD) (t : Fin cfg1.N) : (dat1 V c).after 0 t = dyblk V c t := by dsimp only [dat1]
/-- What window 1 of region 1 holds after a point's body. -/
theorem after1_1 (c : Dev nD) (t : Fin cfg1.N) : (dat1 V c).after 1 t = xtblk V c t := by dsimp only [dat1]
/-- What window 2 of region 1 holds after a point's body. -/
theorem after1_2 (c : Dev nD) (t : Fin cfg1.N) : (dat1 V c).after 2 t = xsblk V c t := by dsimp only [dat1]
/-- What window 3 of region 1 holds after a point's body. -/
theorem after1_3 (c : Dev nD) (t : Fin cfg1.N) : (dat1 V c).after 3 t = mgblk V c t := by dsimp only [dat1]
/-- What window 4 of region 1 holds after a point's body. -/
theorem after1_4 (c : Dev nD) (t : Fin cfg1.N) : (dat1 V c).after 4 t = grad1 (dyblk V c t) (xtblk V c t) (xsblk V c t) (mgblk V c t) := by dsimp only [dat1]
/-- What window 5 of region 1 holds after a point's body. -/
theorem after1_5 (c : Dev nD) (t : Fin cfg1.N) : (dat1 V c).after 5 t = codes1 (dyblk V c t) := by dsimp only [dat1]
/-- What window 6 of region 1 holds after a point's body. -/
theorem after1_6 (c : Dev nD) (t : Fin cfg1.N) : (dat1 V c).after 6 t = scale1 (dyblk V c t) := by dsimp only [dat1]

/-- The body finds the part of the dy block inside the array, filled out with whatever the buffer held. -/
theorem before1_0 (c : Dev nD) (t : Fin cfg1.N) (d) : (dat1 V c).before 0 t d = (cfg1.win 0).fill (cfg1.grid.coords t) d (rd1 V c 0 t) := by
  rw [(dat1 V c).before_fetched 0 t (fetch1_0 t) d]; unfold Dat.fetched Dat.blockOf rd1; rw [A1_eq]
/-- The body finds the transposed x codes. -/
theorem before1_1 (c : Dev nD) (t : Fin cfg1.N) (d) : (dat1 V c).before 1 t d = xtblk V c t :=
  ((dat1 V c).before_in_eq_fetched 1 rfl (fun _ => rfl) (fun _ _ _ => rfl) (fun t => by rw [after1_1]; unfold Dat.blockOf xtblk rd1; rw [A1_eq]; try rfl) t d).trans
    (by unfold Dat.fetched Dat.blockOf xtblk rd1; rw [A1_eq]; try rfl)
/-- The body finds the x scales. -/
theorem before1_2 (c : Dev nD) (t : Fin cfg1.N) (d) : (dat1 V c).before 2 t d = xsblk V c t :=
  ((dat1 V c).before_in_eq_fetched 2 rfl (fun _ => rfl) (fun _ _ _ => rfl) (fun t => by rw [after1_2]; unfold Dat.blockOf xsblk rd1; rw [A1_eq]; try rfl) t d).trans
    (by unfold Dat.fetched Dat.blockOf xsblk rd1; rw [A1_eq]; try rfl)
/-- The body finds the part of the main_grad block inside the array, filled out with whatever the buffer held. -/
theorem before1_3 (c : Dev nD) (t : Fin cfg1.N) (d) : (dat1 V c).before 3 t d = (cfg1.win 3).fill (cfg1.grid.coords t) d (rd1 V c 3 t) := by
  rw [(dat1 V c).before_fetched 3 t (fetch1_3 t) d]; unfold Dat.fetched Dat.blockOf rd1; rw [A1_eq]

/-- The body table's row at point `t`'s slots is region 1's body. -/
theorem defs₀_row1 (t : Fin cfg1.N) : defs₀ (F := F) .tc cfg1.body (cfg1.bodyArgs t (cfg1.slots t)) = bodyAt1 t := by
  unfold defs₀; rw [Defs.onTc_tc]

/-- A window's buffer, at anything that agrees with the filled-out block inside the array. -/
abbrev looseAt (c : Dev nD) (w : Fin cfg1.W) (t : Fin cfg1.N) (X : (cfg1.win w).block.Idx → Elt F (cfg1.win w).elt) : sProp 𝕄 :=
  iprop(∃ d, owns (c : Thread nD τ) ((cfg1.win w).stage (cfg1.slots t w)) fullShare ((cfg1.win w).fill (cfg1.grid.coords t) d ((cfg1.win w).cut (cfg1.grid.coords t) X)))

/-- A buffer at contents that agree with `X` inside the array is at such. -/
theorem looseAt_intro (c : Dev nD) (w : Fin cfg1.W) (t : Fin cfg1.N) (X Y : (cfg1.win w).block.Idx → Elt F (cfg1.win w).elt)
    (h : (cfg1.win w).cut (cfg1.grid.coords t) Y = (cfg1.win w).cut (cfg1.grid.coords t) X) :
    (owns (c : Thread nD τ) ((cfg1.win w).stage (cfg1.slots t w)) fullShare Y : sProp 𝕄) ⊢ looseAt c w t X := by
  unfold looseAt
  iintro H; iexists Y; rw [← h, (cfg1.win w).fill_cut]; iexact H

/-- The filled-out dy block is the array's inside the array. -/
theorem cut_dyblk (c : Dev nD) (t : Fin cfg1.N) : (cfg1.win 0).cut (cfg1.grid.coords t) (dyblk V c t) = rd1 V c 0 t := (cfg1.win 0).cut_fill _ _ _
/-- The filled-out main_grad block is the array's inside the array. -/
theorem cut_mgblk (c : Dev nD) (t : Fin cfg1.N) : (cfg1.win 3).cut (cfg1.grid.coords t) (mgblk V c t) = rd1 V c 3 t := (cfg1.win 3).cut_fill _ _ _

/-- The dy block as the body finds it, filled out with `d`. -/
def dyfill (c : Dev nD) (t : Fin cfg1.N) (d : Vec F S4096x256 .bf16) : Vec F S4096x256 .bf16 := (cfg1.win 0).fill (cfg1.grid.coords t) d (rd1 V c 0 t)
/-- The main_grad block as the body finds it, filled out with `d`. -/
def mgfill (c : Dev nD) (t : Fin cfg1.N) (d : Vec F S1408x256 .f32) : Vec F S1408x256 .f32 := (cfg1.win 3).fill (cfg1.grid.coords t) d (rd1 V c 3 t)
/-- The part of the filled dy block inside the array is the array's block. -/
theorem cut_dyfill (c : Dev nD) (t : Fin cfg1.N) (d) : (cfg1.win 0).cut (cfg1.grid.coords t) (dyfill V c t d) = (cfg1.win 0).cut (cfg1.grid.coords t) (dyblk V c t) :=
  ((cfg1.win 0).cut_fill _ _ _).trans (cut_dyblk V c t).symm
/-- The part of the filled main_grad block inside the array is the array's block. -/
theorem cut_mgfill (c : Dev nD) (t : Fin cfg1.N) (d) : (cfg1.win 3).cut (cfg1.grid.coords t) (mgfill V c t d) = (cfg1.win 3).cut (cfg1.grid.coords t) (mgblk V c t) :=
  ((cfg1.win 3).cut_fill _ _ _).trans (cut_mgblk V c t).symm

/-- Region 1's body at any point, from the inputs' buffers as it finds them, to what it leaves. -/
theorem sound_point1 (c : Dev nD) (t : Fin cfg1.N) (d0 : Vec F S4096x256 .bf16) (d3 : Vec F S1408x256 .f32) (K : PUnit → sProp 𝕄) :
    iprop(owns (c : Thread nD τ) (st1_0 t) fullShare (dyfill V c t d0)
        ∗ owns (c : Thread nD τ) (st1_1 t) fullShare (xtblk V c t)
        ∗ owns (c : Thread nD τ) (st1_2 t) fullShare (xsblk V c t)
        ∗ owns (c : Thread nD τ) (st1_3 t) fullShare (mgfill V c t d3)
        ∗ (∃ d, owns (c : Thread nD τ) (st1_4 t) fullShare d) ∗ (∃ d, owns (c : Thread nD τ) (st1_5 t) fullShare d) ∗ (∃ d, owns (c : Thread nD τ) (st1_6 t) fullShare d)
        ∗ (iprop(looseAt c 0 t (dyblk V c t)
            ∗ owns (c : Thread nD τ) (st1_1 t) fullShare (xtblk V c t)
            ∗ owns (c : Thread nD τ) (st1_2 t) fullShare (xsblk V c t)
            ∗ looseAt c 3 t (mgblk V c t)
            ∗ owns (c : Thread nD τ) (st1_4 t) fullShare (grad1 (dyfill V c t d0) (xtblk V c t) (xsblk V c t) (mgfill V c t d3))
            ∗ owns (c : Thread nD τ) (st1_5 t) fullShare (codes1 (dyfill V c t d0))
            ∗ owns (c : Thread nD τ) (st1_6 t) fullShare (scale1 (dyfill V c t d0))) -∗ K ⟨⟩))
      ⊢ wp frame (wpE (defs₀ (F := F)) Variants.none c none) Set.univ (bodyAt1 t) K := by
  unfold bodyAt1
  iintro ⟨H0, H1, H2, H3, H4, H5, H6, Hk⟩
  iapply (sound_body1 c Set.univ _ _ _ _ _ _ _ _ _ _ _ _ _ _ _ (dyfill V c t d0) (xtblk V c t) (xsblk V c t) (mgfill V c t d3) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0]; · iapply (looseAt_intro c 0 t (dyblk V c t) _ (cut_dyfill V c t d0)); iexact H0
  isplitl [H1]; · iexact H1
  isplitl [H2]; · iexact H2
  isplitl [H3]; · iapply (looseAt_intro c 3 t (mgblk V c t) _ (cut_mgfill V c t d3)); iexact H3
  isplitl [H4]; · iexact H4
  isplitl [H5]; · iexact H5
  iexact H6

/-- The windows of region 1 forgotten: none of the inputs, each output iff `b`. -/
def fg1 (b : Bool) : Fin cfg1.W → Bool := fun | 0 => false | 1 => false | 2 => false | 3 => false | 4 => b | 5 => b | 6 => b | ⟨_ + 7, h⟩ => absurd h (Nat.not_lt.2 (Nat.le_add_left _ _))

/-- Region 1's body obligation with its outputs forgotten. -/
theorem obligation1_forget (c : Dev nD) : BodyObligationLoose (dat1 V c) (defs₀ (F := F)) Variants.none () Set.univ (fg1 true) := fun t => by
  rw [bigSep_W1, bigSep_W1, defs₀_row1]
  simp only [fg1]
  rw [show (dat1 V c).Φ t.succ = (dat1 V c).Φ t.castSucc from rfl,
    show (dat1 V c).owesAt () t.succ = (dat1 V c).owesAt () t.castSucc from rfl]
  simp only [before1_0, before1_1, before1_2, before1_3, after1_0, after1_1, after1_2, after1_3]
  iintro ⟨HΦ, Ho, ⟨%d0, H0⟩, ⟨%d1, H1⟩, ⟨%d2, H2⟩, ⟨%d3, H3⟩, H4, H5, H6⟩
  iapply (sound_point1 V c t d0 d3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

/-- That the columns inside the array of what region 1's body leaves depend on the inputs' columns inside the array only. -/
structure ColumnLocal : Prop where
  grad : ∀ (i : grid1.Coords) (y y' : Vec F S4096x256 .bf16) (xt : Vec F S1408x4096 .fp8e4m3) (xs : Vec F S1408x1 .f32) (g g' : Vec F S1408x256 .f32),
    win1_0.cut i y = win1_0.cut i y' → win1_3.cut i g = win1_3.cut i g' → win1_4.cut i (grad1 y xt xs g) = win1_4.cut i (grad1 y' xt xs g')
  codes : ∀ (i : grid1.Coords) (y y' : Vec F S4096x256 .bf16), win1_0.cut i y = win1_0.cut i y' → win1_5.cut i (codes1 y) = win1_5.cut i (codes1 y')
  scale : ∀ (i : grid1.Coords) (y y' : Vec F S4096x256 .bf16), win1_0.cut i y = win1_0.cut i y' → win1_6.cut i (scale1 y) = win1_6.cut i (scale1 y')

/-- Region 1's body obligation, its outputs kept. -/
theorem obligation1 (hloc : ColumnLocal (F := F)) (c : Dev nD) : BodyObligationLoose (dat1 V c) (defs₀ (F := F)) Variants.none () Set.univ (fg1 false) := fun t => by
  rw [bigSep_W1, bigSep_W1, defs₀_row1]
  simp only [fg1]
  rw [show (dat1 V c).Φ t.succ = (dat1 V c).Φ t.castSucc from rfl,
    show (dat1 V c).owesAt () t.succ = (dat1 V c).owesAt () t.castSucc from rfl]
  simp only [before1_0, before1_1, before1_2, before1_3, after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_point1 V c t d0 d3 _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (looseAt_intro c 4 t (grad1 (dyblk V c t) (xtblk V c t) (xsblk V c t) (mgblk V c t)) _ (hloc.grad _ _ _ _ _ _ _ (cut_dyfill V c t d0) (cut_mgfill V c t d3))); iexact H4
  isplitl [H5]; · iapply (looseAt_intro c 5 t (codes1 (dyblk V c t)) _ (hloc.codes _ _ _ (cut_dyfill V c t d0))); iexact H5
  iapply (looseAt_intro c 6 t (scale1 (dyblk V c t)) _ (hloc.scale _ _ _ (cut_dyfill V c t d0))); iexact H6

end Cert.Kernel.Hand

end
-- ==== Proof.RunK.lean ====
/- The whole program's run: from any memory with zero counters, to every buffer of the core at what the host stretches and the
   two regions make of it, region 1's outputs at what its proof data says or, if forgotten, at something. At any float instance. -/
module

public import proofs.«01_k».proof.Proof.DataK

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (b : Bool)

/-! ## The buffers' contents between items -/

/-- Core `c`'s buffers after region 0: its outputs at what its proof data says. -/
def W2 (c : Dev nD) : Valuation τ sig (Elt F) :=
  Function.update (Function.update (Function.update (V1 m c) main_v2_0 ((dat0 (V1 m) c).arrAt 1 cfg0.N)) main_v2_1 ((dat0 (V1 m) c).arrAt 2 cfg0.N)) main_v2_2 ((dat0 (V1 m) c).arrAt 3 cfg0.N)
/-- Core `c`'s buffers when region 1 is entered. -/
def W3 (c : Dev nD) : Valuation τ sig (Elt F) := StableHlo.after hostOps1 (W2 m c)

/-- Contents of the arrays region 1's windows name. -/
abbrev Arr1 (c : Dev nD) : Type := (w : Fin cfg1.W) → Buf (Elt F) ((cfg1.win w).arr.view.loc (c.tc : Thread nD τ))

/-- Window `w`'s array after region 1: what the proof data says, or, forgotten, `A`'s. -/
def out1 (c : Dev nD) (A : Arr1 (F := F) c) (w : Fin cfg1.W) : Buf (Elt F) ((cfg1.win w).arr.view.loc (c.tc : Thread nD τ)) :=
  if b then A w else (dat1 (W3 m) c).arrAt w cfg1.N

/-- Core `c`'s buffers after region 1. -/
def W4 (c : Dev nD) (A : Arr1 (F := F) c) : Valuation τ sig (Elt F) :=
  Function.update (Function.update (Function.update (W3 m c) main_v4_0 (out1 m b c A 4)) main_v4_1 (out1 m b c A 5)) main_v4_2 (out1 m b c A 6)
/-- Core `c`'s buffers at the end. -/
def W5 (c : Dev nD) (A : Arr1 (F := F) c) : Valuation τ sig (Elt F) := StableHlo.after hostOps2 (W4 m b c A)

/-- Region 0 keeps what it does not write, -/
theorem W2_of (c : Dev nD) (r : Ref sig .tc) (h : r ∉ ([main_v2_0, main_v2_1, main_v2_2] : List (Ref sig .tc))) : W2 m c r = V1 m c r := by
  simp only [W2, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1), Function.update_of_ne (StableHlo.devRef_ne_of_ne (List.ne_of_not_mem_cons (List.not_mem_of_not_mem_cons (List.not_mem_of_not_mem_cons h))) : (Proc.devRef .tc r : DevRef τ sig) ≠ Proc.devRef .tc main_v2_2)]
/-- so do the host lines between the regions, -/
theorem W3_of (c : Dev nD) (r : Ref sig .tc) (h : r ∉ hostOps1_W) : W3 m c r = W2 m c r :=
  StableHlo.after_of_writes_sub hostOps1 _ hostOps1_writes h
/-- so does region 1, -/
theorem W4_of (c : Dev nD) (A) (r : Ref sig .tc) (h : r ∉ ([main_v4_0, main_v4_1, main_v4_2] : List (Ref sig .tc))) : W4 m b c A r = W3 m c r := by
  simp only [W4, Function.update_of_ne (StableHlo.devRef_ne_of_ne (List.ne_of_not_mem_cons h) : (Proc.devRef .tc r : DevRef τ sig) ≠ Proc.devRef .tc main_v4_0), Function.update_of_ne (StableHlo.devRef_ne_of_ne (List.ne_of_not_mem_cons (List.not_mem_of_not_mem_cons h)) : (Proc.devRef .tc r : DevRef τ sig) ≠ Proc.devRef .tc main_v4_1), Function.update_of_ne (StableHlo.devRef_ne_of_ne (List.ne_of_not_mem_cons (List.not_mem_of_not_mem_cons (List.not_mem_of_not_mem_cons h))) : (Proc.devRef .tc r : DevRef τ sig) ≠ Proc.devRef .tc main_v4_2)]
/-- and so do the last host lines. -/
theorem W5_of (c : Dev nD) (A) (r : Ref sig .tc) (h : r ∉ hostOps2_W) : W5 m b c A r = W4 m b c A r :=
  StableHlo.after_of_writes_sub hostOps2 _ hostOps2_writes h

/-- Region 0 leaves its codes, -/
theorem W2_v2_0 (c : Dev nD) : W2 m c main_v2_0 = (dat0 (V1 m) c).arrAt 1 cfg0.N := by
  unfold W2
  rw [Function.update_of_ne (StableHlo.devRef_ne_of_ne (by decide)), Function.update_of_ne (StableHlo.devRef_ne_of_ne (by decide)), Function.update_self]
/-- its scales -/
theorem W2_v2_1 (c : Dev nD) : W2 m c main_v2_1 = (dat0 (V1 m) c).arrAt 2 cfg0.N := by
  unfold W2
  rw [Function.update_of_ne (StableHlo.devRef_ne_of_ne (by decide)), Function.update_self]
/-- and its transposed codes. -/
theorem W2_v2_2 (c : Dev nD) : W2 m c main_v2_2 = (dat0 (V1 m) c).arrAt 3 cfg0.N := by
  unfold W2
  rw [Function.update_self]
/-- Region 1 leaves its gradient, -/
theorem W4_v4_0 (c : Dev nD) (A) : W4 m b c A main_v4_0 = out1 m b c A 4 := by
  unfold W4
  rw [Function.update_of_ne (StableHlo.devRef_ne_of_ne (by decide)), Function.update_of_ne (StableHlo.devRef_ne_of_ne (by decide)), Function.update_self]
/-- its codes -/
theorem W4_v4_1 (c : Dev nD) (A) : W4 m b c A main_v4_1 = out1 m b c A 5 := by
  unfold W4
  rw [Function.update_of_ne (StableHlo.devRef_ne_of_ne (by decide)), Function.update_self]
/-- and its scales. -/
theorem W4_v4_2 (c : Dev nD) (A) : W4 m b c A main_v4_2 = out1 m b c A 6 := by
  unfold W4
  rw [Function.update_self]

/-- An argument array reaches the end as launched: nothing writes it. -/
theorem W5_arg (c : Dev nD) (A) (r : Ref sig .tc) (h5 : r ∉ hostOps2_W) (h4 : r ∉ ([main_v4_0, main_v4_1, main_v4_2] : List (Ref sig .tc)))
    (h3 : r ∉ hostOps1_W) (h2 : r ∉ ([main_v2_0, main_v2_1, main_v2_2] : List (Ref sig .tc))) (h1 : r ∉ hostOps0_W) :
    W5 m b c A r = m ((c : Thread nD τ).loc r) :=
  (W5_of m b c A r h5).trans <| (W4_of m b c A r h4).trans <| (W3_of m c r h3).trans <| (W2_of m c r h2).trans <| (V1_of m c r h1).trans rfl

/-! ## The segments -/

/-- The rest of a core's state between items: the generator register at some state, nothing owed. -/
def rest (c : Dev nD) : sProp 𝕄 := iprop((∃ r, prngReg c r) ∗ ∃ W, owes (c : Thread nD τ) (0 : CellTallies nD τ sig Unit) W)

/-- Both pipelines' proof data. -/
def pdats : (p : Fin 2) → (c : Dev nD) → Dat τ (Elt F) Unit ℕ (UR sig nD τ) ℕ (cfgs p) c := fun
  | ⟨0, _⟩ => dat0 (V1 m)
  | ⟨1, _⟩ => dat1 (W3 m)
  | ⟨_ + 2, h⟩ => absurd h (Nat.not_lt.2 (Nat.le_add_left _ _))

/-- The windows forgotten. -/
def fgs : (p : Fin 2) → Fin (cfgs p).W → Bool := fun
  | ⟨0, _⟩ => fun _ => false
  | ⟨1, _⟩ => fg1 b
  | ⟨_ + 2, h⟩ => absurd h (Nat.not_lt.2 (Nat.le_add_left _ _))

/-- The pairs a level is assigned to: the TensorCores' cells. -/
def LL : GSem nD τ sig → Finset Unit := fun g => if g.1.2 = .tc then {()} else ∅
/-- Every level is zero. -/
def lvl : GSem nD τ sig → Unit → ℕ := fun _ _ => 0

/-- A TensorCore's pairs have the level. -/
theorem LL_tc (c : Dev nD) (s : SemLoc sig) : () ∈ LL ((c : Thread nD τ), s) := by
  unfold LL; rw [if_pos rfl]; exact Finset.mem_singleton_self _

/-- Waiting at the staging cells is licensed: the body owes nothing. -/
theorem cut (p : Fin 2) : Pipeline.LevelCut (pcfgs (F := F)) adm () LL lvl p (fun _ => 0) (fun _ => 0) where
  hι c w s := LL_tc c _
  hιb c w s := le_refl _
  hD c g i h := absurd h (lt_irrefl _)

/-- What region 0 leaves: its windows' arrays as its proof data says. -/
theorem arrs0 (c : Dev nD) (w : Fin cfg0.W) : (dat0 (V1 m) c).arrAt w cfg0.N = W2 m c (Proc.devRef .tc (Pipeline.arrRef spec0 w)) := by
  match w with
  | 0 => exact ((dat0 (V1 m) c).arrAt_in 0 rfl _).trans ((A0_eq (V1 m) c 0).trans (W2_of m c main_v0 (by decide)).symm)
  | 1 => exact (W2_v2_0 m c).symm
  | 2 => exact (W2_v2_1 m c).symm
  | 3 => exact (W2_v2_2 m c).symm

/-- What region 1 leaves: its inputs' arrays as found, its outputs' as its proof data says or as forgotten. -/
theorem arrs1 (c : Dev nD) (A : Arr1 (F := F) c) (hA : ∀ w, fg1 b w = false → A w = (dat1 (W3 m) c).arrAt w cfg1.N) (w : Fin cfg1.W) :
    A w = W4 m b c A (Proc.devRef .tc (Pipeline.arrRef spec1 w)) := by
  have hin : ∀ w : Fin cfg1.W, fg1 b w = false → (hw : (cfg1.win w).isOut = false) → A w = W3 m c (Proc.devRef .tc (Pipeline.arrRef spec1 w)) := fun w hf hw =>
    (hA w hf).trans (((dat1 (W3 m) c).arrAt_in w hw _).trans (A1_eq (W3 m) c w))
  have hout : ∀ w : Fin cfg1.W, fg1 b w = b → A w = out1 m b c A w := fun w hf => by
    unfold out1
    cases b
    · exact hA w hf
    · rfl
  match w with
  | 0 => exact (hin 0 rfl rfl).trans (W4_of m b c A main_v1 (by decide)).symm
  | 1 => exact (hin 1 rfl rfl).trans (W4_of m b c A main_v2_2 (by decide)).symm
  | 2 => exact (hin 2 rfl rfl).trans (W4_of m b c A main_v3 (by decide)).symm
  | 3 => exact (hin 3 rfl rfl).trans (W4_of m b c A main_arg2 (by decide)).symm
  | 4 => exact (hout 4 rfl).trans (W4_v4_0 m b c A).symm
  | 5 => exact (hout 5 rfl).trans (W4_v4_1 m b c A).symm
  | 6 => exact (hout 6 rfl).trans (W4_v4_2 m b c A).symm

/-- A buffer no window of region 0 names is as region 0 found it. -/
theorem others0 (c : Dev nD) (d : DevRef τ sig) (hd : d ∉ (Pipeline.arrRefs (τ := τ) spec0)) : W2 m c d = V1 m c d := by
  have hne : ∀ w : Fin cfg0.W, d ≠ Proc.devRef .tc (Pipeline.arrRef spec0 w) := fun w h => hd (by
    rw [h]; exact Finset.mem_map.mpr ⟨_, Finset.mem_image.mpr ⟨w, Finset.mem_univ _, rfl⟩, rfl⟩)
  unfold W2
  rw [Function.update_of_ne (hne 3), Function.update_of_ne (hne 2), Function.update_of_ne (hne 1)]

/-- A buffer no window of region 1 names is as region 1 found it. -/
theorem others1 (c : Dev nD) (A) (d : DevRef τ sig) (hd : d ∉ (Pipeline.arrRefs (τ := τ) spec1)) : W4 m b c A d = W3 m c d := by
  have hne : ∀ w : Fin cfg1.W, d ≠ Proc.devRef .tc (Pipeline.arrRef spec1 w) := fun w h => hd (by
    rw [h]; exact Finset.mem_map.mpr ⟨_, Finset.mem_image.mpr ⟨w, Finset.mem_univ _, rfl⟩, rfl⟩)
  unfold W4
  rw [Function.update_of_ne (hne 6), Function.update_of_ne (hne 5), Function.update_of_ne (hne 4)]

/-- Region 0's windows' arrays are unscoped. -/
theorem sub0 : Pipeline.arrRefs (τ := τ) spec0 ⊆ Pipeline.ucRefs τ sig := Pipeline.arrRefs_sub_ucRefs spec0 (by decide)
/-- Region 1's windows' arrays are unscoped. -/
theorem sub1 : Pipeline.arrRefs (τ := τ) spec1 ⊆ Pipeline.ucRefs τ sig := Pipeline.arrRefs_sub_ucRefs spec1 (by decide)

/-- The kernel has no semaphore of its own. -/
def noSem : PEmpty → SemLoc sig := fun k => k.elim

/-- The invariant from what the region enters with. -/
theorem enter {gr W : ℕ} (win : Fin W → Pipeline.WinSpec sig gr) (c : Dev nD) (V : Valuation τ sig (Elt F)) :
    iprop(Pipeline.scopedRest win c ∗ (∃ r, prngReg c r) ∗ Pipeline.ownSems0 noSem c
        ∗ (bigSep (∅ : Finset (Ref sig .tc)) fun b => ((c.tc : Thread nD τ).loc b) ↦{fullShare} V (Proc.devRef .tc b))
        ∗ (bigSep (∅ : Finset (Ref sig .tc)) fun b => iprop(∃ f, ((c.tc : Thread nD τ).loc b) ↦{fullShare} f)) ∗ Transfers.MayWaits (c : Thread nD τ) () (0 : CellTallies nD τ sig Unit))
      ⊢ (Pipeline.ΦA win c : sProp 𝕄) := by
  unfold Pipeline.ΦA
  iintro ⟨Hs, Hp, -, -, -, -⟩
  isplitl [Hs]; · iexact Hs
  iexact Hp

/-- What the region leaves with from the invariant. -/
theorem leave {gr W : ℕ} (win : Fin W → Pipeline.WinSpec sig gr) (c : Dev nD) (V : Valuation τ sig (Elt F)) :
    (Pipeline.ΦA win c : sProp 𝕄)
      ⊢ iprop(Pipeline.scopedRest win c ∗ (∃ r, prngReg c r) ∗ Pipeline.ownSems0 noSem c
        ∗ (bigSep (∅ : Finset (Ref sig .tc)) fun b => ((c.tc : Thread nD τ).loc b) ↦{fullShare} V (Proc.devRef .tc b))
        ∗ (bigSep (∅ : Finset (Ref sig .tc)) fun b => iprop(∃ f, ((c.tc : Thread nD τ).loc b) ↦{fullShare} f))) := by
  unfold Pipeline.ΦA
  rw [show (Pipeline.ownSems0 noSem c : sProp 𝕄) = BI.emp from Pipeline.ownSems0_none _ _ _ _ _ _ _ _ c, BI.bigSep_empty, BI.bigSep_empty]
  iintro ⟨Hs, Hp⟩
  isplitl [Hs]; · iexact Hs
  isplitl [Hp]; · iexact Hp
  isplitr; · iempintro
  isplitr; · iempintro
  iempintro

/-- No pipelines' buffers besides its windows' arrays are read or written by a transfer of the body's own. -/
theorem hbm_empty : Pipeline.hbmRefs (τ := τ) (sig := sig) ∅ = ∅ := by
  unfold Pipeline.hbmRefs; exact Finset.map_empty _

/-- Region 0 as a segment. -/
def reg0 : RDat.RegionSeg (pcfgs (F := F)) adm (Pipeline.toRsF (pcfgs (F := F)) adm (pdats m) (fgs b)) () defs₀ Variants.none LL lvl 0 :=
  Pipeline.RDat.RegionSeg.ofHeldF (pcfgs (F := F)) adm (pdats m) () defs₀ Variants.none LL lvl 0 (fun _ => 0) (fgs b) () noSem (Pipeline.OwnSemFacts.none _)
    ∅ ∅ (Pipeline.ucRefs τ sig \ Pipeline.arrRefs spec0) (by rw [hbm_empty]; exact Finset.empty_subset _) (by rw [hbm_empty]; exact Finset.empty_subset _)
    launch0.toP rfl (fun c => (obligation0 (V1 m) c).loose) (fun _ _ => rfl) (fun _ => rfl)
    (fun c => (dat0 (V1 m) c).share_full fun _ => rfl) (fun c => by iintro -; iapply (Transfers.MayWaits.zero (c : Thread nD τ) ()); iempintro)
    (V1 m) (fun c _ _ => W2 m c)
    (fun c A g hA w => (hA w rfl).trans (arrs0 m c w)) (fun c A g b hb => absurd hb (Finset.notMem_empty _))
    (fun c A g d hd => others0 m c d (by rw [hbm_empty, Finset.sdiff_empty, Finset.sdiff_empty] at hd; exact (Finset.mem_sdiff.mp hd).2))
    (fun c A g d hd => by rw [hbm_empty] at hd; exact absurd hd (Finset.notMem_empty _))
    (fun c => enter spec0 c (V1 m c)) (fun c => leave spec0 c (V1 m c)) (fun _ => 0) (cut 0) (fun _ => BI.emp) (fun c w => A0_eq (V1 m) c w)

/-- Region 1 as a segment, from its body's obligation with the forgotten windows `fg1 b`. -/
def reg1 (hbody : ∀ c, BodyObligationLoose (dat1 (W3 m) c) defs₀ Variants.none () Set.univ (fg1 b)) :
    RDat.RegionSeg (pcfgs (F := F)) adm (Pipeline.toRsF (pcfgs (F := F)) adm (pdats m) (fgs b)) () defs₀ Variants.none LL lvl 1 :=
  Pipeline.RDat.RegionSeg.ofHeldF (pcfgs (F := F)) adm (pdats m) () defs₀ Variants.none LL lvl 1 (fun _ => 0) (fgs b) () noSem (Pipeline.OwnSemFacts.none _)
    ∅ ∅ (Pipeline.ucRefs τ sig \ Pipeline.arrRefs spec1) (by rw [hbm_empty]; exact Finset.empty_subset _) (by rw [hbm_empty]; exact Finset.empty_subset _)
    launch1.toP rfl hbody (fun _ _ => rfl) (fun _ => rfl)
    (fun c => (dat1 (W3 m) c).share_full fun _ => rfl) (fun c => by iintro -; iapply (Transfers.MayWaits.zero (c : Thread nD τ) ()); iempintro)
    (W3 m) (fun c A _ => W4 m b c A)
    (fun c A g hA w => arrs1 m b c A hA w) (fun c A g b hb => absurd hb (Finset.notMem_empty _))
    (fun c A g d hd => others1 m b c A d (by rw [hbm_empty, Finset.sdiff_empty, Finset.sdiff_empty] at hd; exact (Finset.mem_sdiff.mp hd).2))
    (fun c A g d hd => by rw [hbm_empty] at hd; exact absurd hd (Finset.notMem_empty _))
    (fun c => enter spec1 c (W3 m c)) (fun c => leave spec1 c (W3 m c)) (fun _ => 0) (cut 1) (fun _ => BI.emp) (fun c w => A1_eq (W3 m) c w)

/-- The host stretch before region 0. -/
def host0 : HostSeg (Ix := Unit) (Name := ℕ) (U := UR sig nD τ) (Lvl := ℕ) (pcfgs (F := F)) defs₀ Variants.none LL lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
/-- The host stretch between the regions. -/
def host1 : HostSeg (Ix := Unit) (Name := ℕ) (U := UR sig nD τ) (Lvl := ℕ) (pcfgs (F := F)) defs₀ Variants.none LL lvl :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) rest

set_option backward.isDefEq.respectTransparency.types false in
/-- The host stretch after region 1, from whatever contents that region's forgotten outputs have. -/
def host2 : HostSeg (Ix := Unit) (Name := ℕ) (U := UR sig nD τ) (Lvl := ℕ) (pcfgs (F := F)) defs₀ Variants.none LL lvl where
  prog := StableHlo.seq hostOps2
  pre c := iprop(∃ A, StableHlo.held (c.tc : Thread nD τ) (Pipeline.ucRefs τ sig) (W4 m b c A) ∗ rest c)
  post c := iprop(∃ A, StableHlo.held (c.tc : Thread nD τ) (Pipeline.ucRefs τ sig) (W5 m b c A) ∗ rest c)
  run c {β} k K := by
    iintro ⟨Hk, Hbd, ⟨%A, Hh, HR⟩, -⟩
    have hseq := StableHlo.wp_seq (defs := Pipeline.defs (pcfgs (F := F)) defs₀) (Variants.lift Variants.none) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W4 m b c A)
    iapply hseq $$ [Hbd Hh]
    · isplitl [Hbd] <;> iassumption
    iintro ⟨Hbd, Hh⟩
    iapply Hk
    isplitl [Hbd]; · iexact Hbd
    iexists A
    isplitl [Hh]; · iexact Hh
    iexact HR

/-- The program's items in order, on every core. -/
def items (hbody : ∀ c, BodyObligationLoose (dat1 (W3 m) c) defs₀ Variants.none () Set.univ (fg1 b)) :
    List (RDat.Seg (Ix := Unit) (Name := ℕ) (U := UR sig nD τ) (Lvl := ℕ) (pcfgs (F := F)) adm (Pipeline.toRsF (pcfgs (F := F)) adm (pdats m) (fgs b)) () defs₀ Variants.none LL lvl) :=
  [.host (host0 m), .region (reg0 m b), .host (host1 m), .region (reg1 m b hbody), .host (host2 m b)]

/-- Entering a region: the windows' arrays taken out of the unscoped buffers. -/
theorem into (T : Finset (DevRef τ sig)) (hT : T ⊆ Pipeline.ucRefs τ sig) (c : Dev nD) (V : Valuation τ sig (Elt F)) :
    iprop(StableHlo.held (c.tc : Thread nD τ) (Pipeline.ucRefs τ sig) V ∗ rest c)
      ⊢ (iprop(StableHlo.held (c.tc : Thread nD τ) T V ∗ (∃ r, prngReg c r)
        ∗ (StableHlo.held (c.tc : Thread nD τ) (Pipeline.ucRefs τ sig \ T) V ∗ BI.emp) ∗ ∃ Wd, owes (c : Thread nD τ) (0 : CellTallies nD τ sig Unit) Wd) : sProp 𝕄) := by
  rw [StableHlo.held_sub_split _ hT]
  unfold rest
  iintro ⟨⟨Ha, Hr⟩, Hp, Ho⟩
  isplitl [Ha]; · iexact Ha
  isplitl [Hp]; · iexact Hp
  isplitl [Hr]
  · isplitl [Hr]; · iexact Hr
    iempintro
  iexact Ho

/-- Leaving a region: the windows' arrays put back among the unscoped buffers. -/
theorem outof (T : Finset (DevRef τ sig)) (hT : T ⊆ Pipeline.ucRefs τ sig) (c : Dev nD) (V : Valuation τ sig (Elt F)) :
    (iprop(StableHlo.held (c.tc : Thread nD τ) T V ∗ (∃ r, prngReg c r)
        ∗ (StableHlo.held (c.tc : Thread nD τ) (Pipeline.ucRefs τ sig \ T) V ∗ BI.emp) ∗ ∃ Wd, owes (c : Thread nD τ) (0 : CellTallies nD τ sig Unit) Wd) : sProp 𝕄)
      ⊢ iprop(StableHlo.held (c.tc : Thread nD τ) (Pipeline.ucRefs τ sig) V ∗ rest c) := by
  rw [StableHlo.held_sub_split _ hT]
  unfold rest
  iintro ⟨Ha, Hp, ⟨Hr, -⟩, Ho⟩
  isplitl [Ha Hr]
  · isplitl [Ha]; · iexact Ha
    iexact Hr
  isplitl [Hp]; · iexact Hp
  iexact Ho

set_option backward.isDefEq.respectTransparency.types false in
/-- Each item runs from the state the one before it leaves. -/
theorem chains (hbody : ∀ c, BodyObligationLoose (dat1 (W3 m) c) defs₀ Variants.none () Set.univ (fg1 b)) (c : Dev nD) :
    RDat.Seg.ChainsAt c (fun c => iprop(StableHlo.held (c : Thread nD τ) (Pipeline.ucRefs τ sig) (V0 m c) ∗ rest c)) (items m b hbody)
      (fun c => iprop((∃ A, StableHlo.held (c.tc : Thread nD τ) (Pipeline.ucRefs τ sig) (W5 m b c A)) ∗ ∃ W, owes (c.tc : Thread nD τ) (0 : CellTallies nD τ sig Unit) W)) := by
  refine ⟨.rfl, into _ sub0 c (V1 m c), ?_, into _ sub1 c (W3 m c), ?_, ?_⟩
  · exact (show iprop(∃ A g, StableHlo.held (c.tc : Thread nD τ) (Pipeline.arrRefs spec0) (W2 m c) ∗ (∃ r, prngReg c r)
      ∗ (StableHlo.held (c.tc : Thread nD τ) (Pipeline.ucRefs τ sig \ Pipeline.arrRefs spec0) (W2 m c) ∗ BI.emp) ∗ ∃ Wd, owes (c : Thread nD τ) (0 : CellTallies nD τ sig Unit) Wd)
        ⊢ (iprop(StableHlo.held (c.tc : Thread nD τ) (Pipeline.ucRefs τ sig) (W2 m c) ∗ rest c) : sProp 𝕄) from by
        iintro ⟨%A, %g, H⟩
        iapply (outof _ sub0 c (W2 m c)) $$ H)
  · exact (show iprop(∃ A g, StableHlo.held (c.tc : Thread nD τ) (Pipeline.arrRefs spec1) (W4 m b c A) ∗ (∃ r, prngReg c r)
      ∗ (StableHlo.held (c.tc : Thread nD τ) (Pipeline.ucRefs τ sig \ Pipeline.arrRefs spec1) (W4 m b c A) ∗ BI.emp) ∗ ∃ Wd, owes (c : Thread nD τ) (0 : CellTallies nD τ sig Unit) Wd)
        ⊢ (iprop(∃ A, StableHlo.held (c.tc : Thread nD τ) (Pipeline.ucRefs τ sig) (W4 m b c A) ∗ rest c) : sProp 𝕄) from by
        iintro ⟨%A, %g, H⟩
        iexists A
        iapply (outof _ sub1 c (W4 m b c A)) $$ H)
  · exact (show iprop(∃ A, StableHlo.held (c.tc : Thread nD τ) (Pipeline.ucRefs τ sig) (W5 m b c A) ∗ rest c) ⊢ _ from by
        unfold rest
        iintro ⟨%A, H, -, Ho⟩
        isplitl [H]
        · iexists A; iexact H
        iexact Ho)

set_option backward.isDefEq.respectTransparency.types false in
/-- The run: every weakly fair execution ends, every unscoped buffer of the core at the last contents `W5` — region 1's outputs
    at its proof data's, or, forgotten, at some contents — and every semaphore at zero. -/
theorem run (hbody : ∀ c, BodyObligationLoose (dat1 (W3 m) c) defs₀ Variants.none () Set.univ (fg1 b)) :
    θ_run defs (onTc (τ := τ) (main (F := F))) ⟨m, fun _ => 0, ρ⟩ (fun r => (∀ c : Dev nD, ∃ A : Arr1 (F := F) c,
      ∀ d ∈ Pipeline.ucRefs τ sig, r.2.mem ((c : Thread nD τ).1, d) = W5 m b c A d) ∧ r.2.sem = fun _ => 0) := by
  refine Pipeline.RDat.θ_run_regions_kit_dev_sems (pcfgs (F := F)) adm (Pipeline.toRsF (pcfgs (F := F)) adm (pdats m) (fgs b)) () cellOf_inj emb₁ defs₀ Variants.none LL lvl m ρ main
    (fun _ => items m b hbody)
    (fun c Q => by
      rewrite [main_chain c, RDat.Seg.run_eq_chain,
        show (items m b hbody).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide) (fun _ => 0)
    (fun g hg => by unfold LL; rw [if_neg hg]) (fun _ => BI.emp) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => iprop(∃ A, StableHlo.held (c.tc : Thread nD τ) (Pipeline.ucRefs τ sig) (W5 m b c A)))
    (hch := chains m b hbody)
    (hinit := ?_) (QY := fun c s => ∃ A : Arr1 (F := F) c, ∀ d ∈ Pipeline.ucRefs τ sig, s.mem ((c : Thread nD τ).1, d) = W5 m b c A d)
    (hfin := fun c s' => ?_) (hQ := fun _ h hz => ⟨h, funext fun g => hz g (.inr (regions_no_unscoped g.2))⟩)
  · refine Pipeline.initEach LL lvl fun c => ?_
    rw [show unscopedBufs c (fun b => m ((c : Thread nD τ).loc b)) = StableHlo.held (c : Thread nD τ) (Pipeline.ucRefs τ sig) (V0 m c) from Pipeline.unscopedBufs_held c (V0 m c)]
    unfold rest
    iintro ⟨⟨Hh, -, HO, -, Hp, -⟩, -⟩
    imodintro
    isplitl [Hh]; · iexact Hh
    isplitl [Hp]; · iexists _; iexact Hp
    iexists ∅; iexact HO
  · unfold StableHlo.held
    iintro ⟨⟨%A, Hh⟩, HSI⟩
    ihave Hr := (pointsTo_read_all (Pipeline.ucRefs τ sig) (fun d => ((c : Thread nD τ).1, d)) (W5 m b c A) s') $$ [Hh HSI]
    · isplitl [Hh] <;> iassumption
    icases Hr with ⟨%h, HSI⟩
    imodintro
    isplitr
    · ipureintro; exact ⟨A, h⟩
    · iexact HSI

/-- An unscoped TensorCore reference's buffer is among those the run names. -/
theorem mem_uc (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; exact Bool.false_ne_true⟩

/-- The frame: every execution ends with the arguments as launched and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run m ρ true fun c => obligation1_forget (W3 m) c)
  obtain ⟨A, hA⟩ := h.1 c
  exact ⟨(hA _ (mem_uc main_arg0 rfl)).trans (W5_arg m true c A main_arg0 (by decide) (by decide) (by decide) (by decide) (by decide)),
    (hA _ (mem_uc main_arg1 rfl)).trans (W5_arg m true c A main_arg1 (by decide) (by decide) (by decide) (by decide) (by decide)),
    (hA _ (mem_uc main_arg2 rfl)).trans (W5_arg m true c A main_arg2 (by decide) (by decide) (by decide) (by decide) (by decide))⟩

end Cert.Kernel.Hand

end
-- ==== Proof.BodyI.lean ====
/- The two kernel bodies on whole staging buffers: each reads its inputs' buffers and leaves each output's buffer at a
   function of what the inputs' held. At any float instance. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the bodies leave, as functions of what they read -/

/-- The exponent fields the search over the x block's columns ends with. -/
def expo0 (x : Vec F S4096x128 .bf16) : IVec S1x128 32 := k0_pay9 (k0_pay6 x) (k0_pay7 x) (k0_pay8 x) 16#32
/-- Whether a column's exponent field is 0 or 255. -/
def flat0 (x : Vec F S4096x128 .bf16) : IVec S1x128 1 := k0_pay10 (k0_pay6 x) (k0_pay7 x) (k0_pay8 x) 16#32
/-- The x block's codes. -/
def codes0 (x : Vec F S4096x128 .bf16) : Vec F S4096x128 .fp8e4m3 := k0_pay3 (k0_pay5 x) (expo0 x) (flat0 x) k0_pay11
/-- The x block's scales. -/
def scale0 (x : Vec F S4096x128 .bf16) : Vec F S1x128 .f32 := k0_pay2 (expo0 x) (flat0 x) k0_pay11
/-- The x block's codes, transposed. -/
def codesT0 (x : Vec F S4096x128 .bf16) : Vec F S128x4096 .fp8e4m3 := k0_pay4 (k0_pay5 x) (expo0 x) (flat0 x) k0_pay11

/-- The exponent fields the search over the dy block's columns ends with. -/
def expo1 (y : Vec F S4096x256 .bf16) : IVec S1x256 32 := k1_pay5 (k1_pay2 y) (k1_pay3 y) (k1_pay4 y) 16#32
/-- Whether a column's exponent field is 0 or 255. -/
def flat1 (y : Vec F S4096x256 .bf16) : IVec S1x256 1 := k1_pay6 (k1_pay2 y) (k1_pay3 y) (k1_pay4 y) 16#32
/-- The dy block's codes. -/
def codes1 (y : Vec F S4096x256 .bf16) : Vec F S4096x256 .fp8e5m2 := k1_pay10 (k1_pay1 y) (expo1 y) (flat1 y) k1_pay7
/-- The dy block's scales. -/
def scale1 (y : Vec F S4096x256 .bf16) : Vec F S1x256 .f32 := k1_pay9 (expo1 y) (flat1 y) k1_pay7
/-- The block of the weight gradient added to main_grad's. -/
def grad1 (y : Vec F S4096x256 .bf16) (xt : Vec F S1408x4096 .fp8e4m3) (xs : Vec F S1408x1 .f32) (g : Vec F S1408x256 .f32) : Vec F S1408x256 .f32 :=
  k1_pay11 (k1_pay1 y) (expo1 y) (flat1 y) k1_pay7 xt g xs

/-! ## Whole-buffer loads and stores -/

/-- A zero offset of rank two. -/
theorem off2 : (![0, 0] : Fin 2 → ℕ) = fun _ => 0 := by decide

/-- What one store over the whole of a buffer leaves there is the stored vector. -/
theorem read_one {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon _ _ _ (fun y => ⟨_, List.mem_singleton_self _, by
    subst h; show y ∈ (Rect.whole S).set; rw [Rect.set_whole]; exact Finset.mem_univ y⟩)).trans (View.canon_unit_zero h inb w)

/-- The gradient block read through whole-buffer loads is the gradient block of the buffers' contents. -/
theorem grad1_ld (y : Vec F S4096x256 .bf16) (xt : Vec F S1408x4096 .fp8e4m3) (xs : Vec F S1408x1 .f32) (g : Vec F S1408x256 .f32) :
    grad1 (View.ld y (Rect.unit (s := S4096x256) ![0, 0] S4096x256.size inb_S4096x256_S4096x256_0_0))
      (View.ld xt (Rect.unit (s := S1408x4096) ![0, 0] S1408x4096.size inb_S1408x4096_S1408x4096_0_0))
      (View.ld xs (Rect.unit (s := S1408x1) ![0, 0] S1408x1.size inb_S1408x1_S1408x1_0_0))
      (View.ld g (Rect.unit (s := S1408x256) ![0, 0] S1408x256.size inb_S1408x256_S1408x256_0_0)) = grad1 y xt xs g := by
  rw [View.ld_unit_zero off2, View.ld_unit_zero off2, View.ld_unit_zero off2, View.ld_unit_zero off2]

/-! ## The bodies' triples -/

set_option maxHeartbeats 1000000 in
/-- The quantiser's body: from the x block's buffer at `x` and the outputs' at anything, to the outputs' at the codes, the
    scales and the transposed codes of `x`. -/
theorem sound_body0 (c : Dev nD) (E : Set ℕ) (i : grid0.Coords) (arg1 : Memref sig .tc .vmem S4096x128 .bf16) (harg1 : arg1.IsWhole) (arg2 : Memref sig .tc .vmem S4096x128 .fp8e4m3) (harg2 : arg2.IsWhole) (arg3 : Memref sig .tc .vmem S1x128 .f32) (harg3 : arg3.IsWhole) (arg4 : Memref sig .tc .vmem S128x4096 .fp8e4m3) (harg4 : arg4.IsWhole)
    (x : Vec F S4096x128 .bf16) (K : PUnit → sProp 𝕄) :
    iprop(owns (c : Thread nD τ) arg1 fullShare x ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg1 fullShare x ∗ owns (c : Thread nD τ) arg2 fullShare (codes0 x) ∗ owns (c : Thread nD τ) arg3 fullShare (scale0 x) ∗ owns (c : Thread nD τ) arg4 fullShare (codesT0 x)) -∗ K ⟨⟩))
      ⊢ wp frame (wpE (defs₀ (F := F)) Variants.none c none) E (cc0_quantise_x i arg1 harg1 arg2 harg2 arg3 harg3 arg4 harg4) K := by
  simp only [cc0_quantise_x_eq_skeleton]; unfold cc0_quantise_x_skel
  simp only [k0_part1_eq_skeleton, k0_part2_eq_skeleton]
  unfold owns
  iintro ⟨⟨%f1, %hf1, H1⟩, ⟨%d2, %f2, -, H2⟩, ⟨%d3, %f3, -, H3⟩, ⟨%d4, %f4, -, H4⟩, Hk⟩
  subst hf1
  sl_exec
  sl_step
  iapply Hk
  isplitl [H1]
  · iexists f1; isplitr; · ipureintro; rfl
    iexact H1
  isplitl [H2]
  · iexists _; isplitr
    swap; · iexact H2
    ipureintro
    exact (read_one _ _ off2 _ _).trans (congrArg codes0 (View.ld_unit_zero off2 _ _))
  isplitl [H3]
  · iexists _; isplitr
    swap; · iexact H3
    ipureintro
    exact (read_one _ _ off2 _ _).trans (congrArg scale0 (View.ld_unit_zero off2 _ _))
  iexists _; isplitr
  swap; · iexact H4
  ipureintro
  exact (read_one _ _ off2 _ _).trans (congrArg codesT0 (View.ld_unit_zero off2 _ _))

set_option maxHeartbeats 2000000 in
/-- The gradient's body: from the dy block's, the transposed x codes', the x scales' and the main_grad block's buffers at
    `y`, `xt`, `xs` and `g`, and the outputs' at anything, to the outputs' at the gradient block, the dy codes and the dy scales. -/
theorem sound_body1 (c : Dev nD) (E : Set ℕ) (i : grid1.Coords) (arg1 : Memref sig .tc .vmem S4096x256 .bf16) (harg1 : arg1.IsWhole) (arg2 : Memref sig .tc .vmem S1408x4096 .fp8e4m3) (harg2 : arg2.IsWhole) (arg3 : Memref sig .tc .vmem S1408x1 .f32) (harg3 : arg3.IsWhole) (arg4 : Memref sig .tc .vmem S1408x256 .f32) (harg4 : arg4.IsWhole) (arg5 : Memref sig .tc .vmem S1408x256 .f32) (harg5 : arg5.IsWhole) (arg6 : Memref sig .tc .vmem S4096x256 .fp8e5m2) (harg6 : arg6.IsWhole) (arg7 : Memref sig .tc .vmem S1x256 .f32) (harg7 : arg7.IsWhole)
    (y : Vec F S4096x256 .bf16) (xt : Vec F S1408x4096 .fp8e4m3) (xs : Vec F S1408x1 .f32) (g : Vec F S1408x256 .f32) (K : PUnit → sProp 𝕄) :
    iprop(owns (c : Thread nD τ) arg1 fullShare y ∗ owns (c : Thread nD τ) arg2 fullShare xt ∗ owns (c : Thread nD τ) arg3 fullShare xs ∗ owns (c : Thread nD τ) arg4 fullShare g
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare y ∗ owns (c : Thread nD τ) arg2 fullShare xt ∗ owns (c : Thread nD τ) arg3 fullShare xs ∗ owns (c : Thread nD τ) arg4 fullShare g
            ∗ owns (c : Thread nD τ) arg5 fullShare (grad1 y xt xs g) ∗ owns (c : Thread nD τ) arg6 fullShare (codes1 y) ∗ owns (c : Thread nD τ) arg7 fullShare (scale1 y)) -∗ K ⟨⟩))
      ⊢ wp frame (wpE (defs₀ (F := F)) Variants.none c none) E (cc1_dw i arg1 harg1 arg2 harg2 arg3 harg3 arg4 harg4 arg5 harg5 arg6 harg6 arg7 harg7) K := by
  simp only [cc1_dw_eq_skeleton]; unfold cc1_dw_skel
  simp only [k1_part3_eq_skeleton]; unfold k1_part3_skel
  simp only [k1_part1_eq_skeleton, k1_part2_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (read_one _ _ off2 _ _).trans (grad1_ld _ _ _ _)
  isplitl [H6]
  · iexists _; isplitr
    swap; · iexact H6
    ipureintro
    exact (read_one _ _ off2 _ _).trans (congrArg codes1 (View.ld_unit_zero off2 _ _))
  iexists _; isplitr
  swap; · iexact H7
  ipureintro
  exact (read_one _ _ off2 _ _).trans (congrArg scale1 (View.ld_unit_zero off2 _ _))

end Cert.KernelIdeal.Hand

end
-- ==== Proof.DataI.lean ====
/- The two pipelines' proof data, from any contents of the core's buffers at entry, and their body obligations: region 0's
   exactly; region 1's either with its three outputs forgotten, or exactly on the columns inside the array, given that those
   columns of what the body leaves depend on those columns of what it reads. At any float instance. -/
module

public import proofs.«01_k».proof.Proof.BodyI
public import proofs.«01_k».proof.Proof.Gen.KernelIdeal.Regions
public import Idealize.ShloMosaic.Lib.Pipeline.RegionArraysF

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : Dev nD → Valuation τ sig (Elt F))

/-! ## Region 0 -/

/-- The x block at point `t`: 128 columns of the array region 0 reads. -/
def xblk (c : Dev nD) (t : Fin cfg0.N) : Vec F S4096x128 .bf16 :=
  ((cfg0.win 0).blk t).view.read (Elt F) (V c (Proc.devRef .tc (Pipeline.arrRef spec0 0)))

/-- Region 0's proof data: each output's buffer at what the body makes of the x block. -/
def dat0 (c : Dev nD) : Dat τ (Elt F) Unit ℕ (UR sig nD τ) ℕ cfg0 c where
  A w := V c (Proc.devRef .tc (Pipeline.arrRef spec0 w))
  after w t := match w with
    | ⟨0, _⟩ => xblk V c t
    | ⟨1, _⟩ => codes0 (xblk V c t)
    | ⟨2, _⟩ => scale0 (xblk V c t)
    | ⟨3, _⟩ => codesT0 (xblk V c t)
  Φ _ := Pipeline.ΦA spec0 c
  q _ := fullShare
  owed _ := 0

/-- The arrays are as region 0 finds them. -/
theorem A0_eq (c : Dev nD) (w : Fin cfg0.W) : (dat0 V c).A w = V c (Proc.devRef .tc (Pipeline.arrRef spec0 w)) := by dsimp only [dat0]

/-- What window 0 of region 0 holds after a point's body. -/
theorem after0_0 (c : Dev nD) (t : Fin cfg0.N) : (dat0 V c).after 0 t = xblk V c t := by dsimp only [dat0]
/-- What window 1 of region 0 holds after a point's body. -/
theorem after0_1 (c : Dev nD) (t : Fin cfg0.N) : (dat0 V c).after 1 t = codes0 (xblk V c t) := by dsimp only [dat0]
/-- What window 2 of region 0 holds after a point's body. -/
theorem after0_2 (c : Dev nD) (t : Fin cfg0.N) : (dat0 V c).after 2 t = scale0 (xblk V c t) := by dsimp only [dat0]
/-- What window 3 of region 0 holds after a point's body. -/
theorem after0_3 (c : Dev nD) (t : Fin cfg0.N) : (dat0 V c).after 3 t = codesT0 (xblk V c t) := by dsimp only [dat0]

/-- The body finds the x block in its input's buffer. -/
theorem before0_0 (c : Dev nD) (t : Fin cfg0.N) (d) : (dat0 V c).before 0 t d = xblk V c t :=
  ((dat0 V c).before_in_eq_fetched 0 rfl (fun _ => rfl) (fun _ _ _ => rfl) (fun t => by rw [after0_0]; unfold Dat.blockOf xblk; rw [A0_eq]; try rfl) t d).trans
    (by unfold Dat.fetched Dat.blockOf xblk; rw [A0_eq]; try rfl)

/-- What region 0's body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- Region 0's body at any point. -/
theorem sound_point0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_body0 c Set.univ _ _ _ _ _ _ _ _ _ (xblk V c t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is region 0's body. -/
theorem defs₀_row0 (t : Fin cfg0.N) : defs₀ (F := F) .tc cfg0.body (cfg0.bodyArgs t (cfg0.slots t)) = bodyAt0 t := by
  unfold defs₀; rw [Defs.onTc_tc]

/-- Region 0's body obligation. -/
theorem obligation0 (c : Dev nD) : BodyObligation (dat0 V c) (defs₀ (F := F)) Variants.none () Set.univ := fun t => by
  rw [bigSep_W0, bigSep_W0, defs₀_row0]
  exact triple_restated (sound_point0 V c t) rfl .rfl fun _ => .rfl

/-! ## Region 1 -/

/-- The part inside the array of the block of window `w` at point `t`. -/
def rd1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Some element of each element type. -/
def anyElt (F : FTy → Type) [FloatOps F] (e : EltTy) : Elt F e := Classical.arbitrary _

/-- The dy block at point `t`, filled out past the array's end with words nothing reads. -/
def dyblk (c : Dev nD) (t : Fin cfg1.N) : Vec F S4096x256 .bf16 :=
  (cfg1.win 0).fill (cfg1.grid.coords t) (fun _ => anyElt F .bf16) (rd1 V c 0 t)
/-- The transposed x codes, whole. -/
def xtblk (c : Dev nD) (t : Fin cfg1.N) : Vec F S1408x4096 .fp8e4m3 := rd1 V c 1 t
/-- The x scales, whole. -/
def xsblk (c : Dev nD) (t : Fin cfg1.N) : Vec F S1408x1 .f32 := rd1 V c 2 t
/-- The main_grad block at point `t`, filled out past the array's end. -/
def mgblk (c : Dev nD) (t : Fin cfg1.N) : Vec F S1408x256 .f32 :=
  (cfg1.win 3).fill (cfg1.grid.coords t) (fun _ => anyElt F .f32) (rd1 V c 3 t)

/-- Region 1's proof data: each output's buffer at what the body makes of the filled-out blocks. -/
def dat1 (c : Dev nD) : Dat τ (Elt F) Unit ℕ (UR sig nD τ) ℕ cfg1 c where
  A w := V c (Proc.devRef .tc (Pipeline.arrRef spec1 w))
  after w t := match w with
    | ⟨0, _⟩ => dyblk V c t
    | ⟨1, _⟩ => xtblk V c t
    | ⟨2, _⟩ => xsblk V c t
    | ⟨3, _⟩ => mgblk V c t
    | ⟨4, _⟩ => grad1 (dyblk V c t) (xtblk V c t) (xsblk V c t) (mgblk V c t)
    | ⟨5, _⟩ => codes1 (dyblk V c t)
    | ⟨6, _⟩ => scale1 (dyblk V c t)
  Φ _ := Pipeline.ΦA spec1 c
  q _ := fullShare
  owed _ := 0

/-- The arrays are as region 1 finds them. -/
theorem A1_eq (c : Dev nD) (w : Fin cfg1.W) : (dat1 V c).A w = V c (Proc.devRef .tc (Pipeline.arrRef spec1 w)) := by dsimp only [dat1]

/-- What window 0 of region 1 holds after a point's body. -/
theorem after1_0 (c : Dev nD) (t : Fin cfg1.N) : (dat1 V c).after 0 t = dyblk V c t := by dsimp only [dat1]
/-- What window 1 of region 1 holds after a point's body. -/
theorem after1_1 (c : Dev nD) (t : Fin cfg1.N) : (dat1 V c).after 1 t = xtblk V c t := by dsimp only [dat1]
/-- What window 2 of region 1 holds after a point's body. -/
theorem after1_2 (c : Dev nD) (t : Fin cfg1.N) : (dat1 V c).after 2 t = xsblk V c t := by dsimp only [dat1]
/-- What window 3 of region 1 holds after a point's body. -/
theorem after1_3 (c : Dev nD) (t : Fin cfg1.N) : (dat1 V c).after 3 t = mgblk V c t := by dsimp only [dat1]
/-- What window 4 of region 1 holds after a point's body. -/
theorem after1_4 (c : Dev nD) (t : Fin cfg1.N) : (dat1 V c).after 4 t = grad1 (dyblk V c t) (xtblk V c t) (xsblk V c t) (mgblk V c t) := by dsimp only [dat1]
/-- What window 5 of region 1 holds after a point's body. -/
theorem after1_5 (c : Dev nD) (t : Fin cfg1.N) : (dat1 V c).after 5 t = codes1 (dyblk V c t) := by dsimp only [dat1]
/-- What window 6 of region 1 holds after a point's body. -/
theorem after1_6 (c : Dev nD) (t : Fin cfg1.N) : (dat1 V c).after 6 t = scale1 (dyblk V c t) := by dsimp only [dat1]

/-- The body finds the part of the dy block inside the array, filled out with whatever the buffer held. -/
theorem before1_0 (c : Dev nD) (t : Fin cfg1.N) (d) : (dat1 V c).before 0 t d = (cfg1.win 0).fill (cfg1.grid.coords t) d (rd1 V c 0 t) := by
  rw [(dat1 V c).before_fetched 0 t (fetch1_0 t) d]; unfold Dat.fetched Dat.blockOf rd1; rw [A1_eq]
/-- The body finds the transposed x codes. -/
theorem before1_1 (c : Dev nD) (t : Fin cfg1.N) (d) : (dat1 V c).before 1 t d = xtblk V c t :=
  ((dat1 V c).before_in_eq_fetched 1 rfl (fun _ => rfl) (fun _ _ _ => rfl) (fun t => by rw [after1_1]; unfold Dat.blockOf xtblk rd1; rw [A1_eq]; try rfl) t d).trans
    (by unfold Dat.fetched Dat.blockOf xtblk rd1; rw [A1_eq]; try rfl)
/-- The body finds the x scales. -/
theorem before1_2 (c : Dev nD) (t : Fin cfg1.N) (d) : (dat1 V c).before 2 t d = xsblk V c t :=
  ((dat1 V c).before_in_eq_fetched 2 rfl (fun _ => rfl) (fun _ _ _ => rfl) (fun t => by rw [after1_2]; unfold Dat.blockOf xsblk rd1; rw [A1_eq]; try rfl) t d).trans
    (by unfold Dat.fetched Dat.blockOf xsblk rd1; rw [A1_eq]; try rfl)
/-- The body finds the part of the main_grad block inside the array, filled out with whatever the buffer held. -/
theorem before1_3 (c : Dev nD) (t : Fin cfg1.N) (d) : (dat1 V c).before 3 t d = (cfg1.win 3).fill (cfg1.grid.coords t) d (rd1 V c 3 t) := by
  rw [(dat1 V c).before_fetched 3 t (fetch1_3 t) d]; unfold Dat.fetched Dat.blockOf rd1; rw [A1_eq]

/-- The body table's row at point `t`'s slots is region 1's body. -/
theorem defs₀_row1 (t : Fin cfg1.N) : defs₀ (F := F) .tc cfg1.body (cfg1.bodyArgs t (cfg1.slots t)) = bodyAt1 t := by
  unfold defs₀; rw [Defs.onTc_tc]

/-- A window's buffer, at anything that agrees with the filled-out block inside the array. -/
abbrev looseAt (c : Dev nD) (w : Fin cfg1.W) (t : Fin cfg1.N) (X : (cfg1.win w).block.Idx → Elt F (cfg1.win w).elt) : sProp 𝕄 :=
  iprop(∃ d, owns (c : Thread nD τ) ((cfg1.win w).stage (cfg1.slots t w)) fullShare ((cfg1.win w).fill (cfg1.grid.coords t) d ((cfg1.win w).cut (cfg1.grid.coords t) X)))

/-- A buffer at contents that agree with `X` inside the array is at such. -/
theorem looseAt_intro (c : Dev nD) (w : Fin cfg1.W) (t : Fin cfg1.N) (X Y : (cfg1.win w).block.Idx → Elt F (cfg1.win w).elt)
    (h : (cfg1.win w).cut (cfg1.grid.coords t) Y = (cfg1.win w).cut (cfg1.grid.coords t) X) :
    (owns (c : Thread nD τ) ((cfg1.win w).stage (cfg1.slots t w)) fullShare Y : sProp 𝕄) ⊢ looseAt c w t X := by
  unfold looseAt
  iintro H; iexists Y; rw [← h, (cfg1.win w).fill_cut]; iexact H

/-- The filled-out dy block is the array's inside the array. -/
theorem cut_dyblk (c : Dev nD) (t : Fin cfg1.N) : (cfg1.win 0).cut (cfg1.grid.coords t) (dyblk V c t) = rd1 V c 0 t := (cfg1.win 0).cut_fill _ _ _
/-- The filled-out main_grad block is the array's inside the array. -/
theorem cut_mgblk (c : Dev nD) (t : Fin cfg1.N) : (cfg1.win 3).cut (cfg1.grid.coords t) (mgblk V c t) = rd1 V c 3 t := (cfg1.win 3).cut_fill _ _ _

/-- The dy block as the body finds it, filled out with `d`. -/
def dyfill (c : Dev nD) (t : Fin cfg1.N) (d : Vec F S4096x256 .bf16) : Vec F S4096x256 .bf16 := (cfg1.win 0).fill (cfg1.grid.coords t) d (rd1 V c 0 t)
/-- The main_grad block as the body finds it, filled out with `d`. -/
def mgfill (c : Dev nD) (t : Fin cfg1.N) (d : Vec F S1408x256 .f32) : Vec F S1408x256 .f32 := (cfg1.win 3).fill (cfg1.grid.coords t) d (rd1 V c 3 t)
/-- The part of the filled dy block inside the array is the array's block. -/
theorem cut_dyfill (c : Dev nD) (t : Fin cfg1.N) (d) : (cfg1.win 0).cut (cfg1.grid.coords t) (dyfill V c t d) = (cfg1.win 0).cut (cfg1.grid.coords t) (dyblk V c t) :=
  ((cfg1.win 0).cut_fill _ _ _).trans (cut_dyblk V c t).symm
/-- The part of the filled main_grad block inside the array is the array's block. -/
theorem cut_mgfill (c : Dev nD) (t : Fin cfg1.N) (d) : (cfg1.win 3).cut (cfg1.grid.coords t) (mgfill V c t d) = (cfg1.win 3).cut (cfg1.grid.coords t) (mgblk V c t) :=
  ((cfg1.win 3).cut_fill _ _ _).trans (cut_mgblk V c t).symm

/-- Region 1's body at any point, from the inputs' buffers as it finds them, to what it leaves. -/
theorem sound_point1 (c : Dev nD) (t : Fin cfg1.N) (d0 : Vec F S4096x256 .bf16) (d3 : Vec F S1408x256 .f32) (K : PUnit → sProp 𝕄) :
    iprop(owns (c : Thread nD τ) (st1_0 t) fullShare (dyfill V c t d0)
        ∗ owns (c : Thread nD τ) (st1_1 t) fullShare (xtblk V c t)
        ∗ owns (c : Thread nD τ) (st1_2 t) fullShare (xsblk V c t)
        ∗ owns (c : Thread nD τ) (st1_3 t) fullShare (mgfill V c t d3)
        ∗ (∃ d, owns (c : Thread nD τ) (st1_4 t) fullShare d) ∗ (∃ d, owns (c : Thread nD τ) (st1_5 t) fullShare d) ∗ (∃ d, owns (c : Thread nD τ) (st1_6 t) fullShare d)
        ∗ (iprop(looseAt c 0 t (dyblk V c t)
            ∗ owns (c : Thread nD τ) (st1_1 t) fullShare (xtblk V c t)
            ∗ owns (c : Thread nD τ) (st1_2 t) fullShare (xsblk V c t)
            ∗ looseAt c 3 t (mgblk V c t)
            ∗ owns (c : Thread nD τ) (st1_4 t) fullShare (grad1 (dyfill V c t d0) (xtblk V c t) (xsblk V c t) (mgfill V c t d3))
            ∗ owns (c : Thread nD τ) (st1_5 t) fullShare (codes1 (dyfill V c t d0))
            ∗ owns (c : Thread nD τ) (st1_6 t) fullShare (scale1 (dyfill V c t d0))) -∗ K ⟨⟩))
      ⊢ wp frame (wpE (defs₀ (F := F)) Variants.none c none) Set.univ (bodyAt1 t) K := by
  unfold bodyAt1
  iintro ⟨H0, H1, H2, H3, H4, H5, H6, Hk⟩
  iapply (sound_body1 c Set.univ _ _ _ _ _ _ _ _ _ _ _ _ _ _ _ (dyfill V c t d0) (xtblk V c t) (xsblk V c t) (mgfill V c t d3) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0]; · iapply (looseAt_intro c 0 t (dyblk V c t) _ (cut_dyfill V c t d0)); iexact H0
  isplitl [H1]; · iexact H1
  isplitl [H2]; · iexact H2
  isplitl [H3]; · iapply (looseAt_intro c 3 t (mgblk V c t) _ (cut_mgfill V c t d3)); iexact H3
  isplitl [H4]; · iexact H4
  isplitl [H5]; · iexact H5
  iexact H6

/-- The windows of region 1 forgotten: none of the inputs, each output iff `b`. -/
def fg1 (b : Bool) : Fin cfg1.W → Bool := fun | 0 => false | 1 => false | 2 => false | 3 => false | 4 => b | 5 => b | 6 => b | ⟨_ + 7, h⟩ => absurd h (Nat.not_lt.2 (Nat.le_add_left _ _))

/-- Region 1's body obligation with its outputs forgotten. -/
theorem obligation1_forget (c : Dev nD) : BodyObligationLoose (dat1 V c) (defs₀ (F := F)) Variants.none () Set.univ (fg1 true) := fun t => by
  rw [bigSep_W1, bigSep_W1, defs₀_row1]
  simp only [fg1]
  rw [show (dat1 V c).Φ t.succ = (dat1 V c).Φ t.castSucc from rfl,
    show (dat1 V c).owesAt () t.succ = (dat1 V c).owesAt () t.castSucc from rfl]
  simp only [before1_0, before1_1, before1_2, before1_3, after1_0, after1_1, after1_2, after1_3]
  iintro ⟨HΦ, Ho, ⟨%d0, H0⟩, ⟨%d1, H1⟩, ⟨%d2, H2⟩, ⟨%d3, H3⟩, H4, H5, H6⟩
  iapply (sound_point1 V c t d0 d3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

/-- That the columns inside the array of what region 1's body leaves depend on the inputs' columns inside the array only. -/
structure ColumnLocal : Prop where
  grad : ∀ (i : grid1.Coords) (y y' : Vec F S4096x256 .bf16) (xt : Vec F S1408x4096 .fp8e4m3) (xs : Vec F S1408x1 .f32) (g g' : Vec F S1408x256 .f32),
    win1_0.cut i y = win1_0.cut i y' → win1_3.cut i g = win1_3.cut i g' → win1_4.cut i (grad1 y xt xs g) = win1_4.cut i (grad1 y' xt xs g')
  codes : ∀ (i : grid1.Coords) (y y' : Vec F S4096x256 .bf16), win1_0.cut i y = win1_0.cut i y' → win1_5.cut i (codes1 y) = win1_5.cut i (codes1 y')
  scale : ∀ (i : grid1.Coords) (y y' : Vec F S4096x256 .bf16), win1_0.cut i y = win1_0.cut i y' → win1_6.cut i (scale1 y) = win1_6.cut i (scale1 y')

/-- Region 1's body obligation, its outputs kept. -/
theorem obligation1 (hloc : ColumnLocal (F := F)) (c : Dev nD) : BodyObligationLoose (dat1 V c) (defs₀ (F := F)) Variants.none () Set.univ (fg1 false) := fun t => by
  rw [bigSep_W1, bigSep_W1, defs₀_row1]
  simp only [fg1]
  rw [show (dat1 V c).Φ t.succ = (dat1 V c).Φ t.castSucc from rfl,
    show (dat1 V c).owesAt () t.succ = (dat1 V c).owesAt () t.castSucc from rfl]
  simp only [before1_0, before1_1, before1_2, before1_3, after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_point1 V c t d0 d3 _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (looseAt_intro c 4 t (grad1 (dyblk V c t) (xtblk V c t) (xsblk V c t) (mgblk V c t)) _ (hloc.grad _ _ _ _ _ _ _ (cut_dyfill V c t d0) (cut_mgfill V c t d3))); iexact H4
  isplitl [H5]; · iapply (looseAt_intro c 5 t (codes1 (dyblk V c t)) _ (hloc.codes _ _ _ (cut_dyfill V c t d0))); iexact H5
  iapply (looseAt_intro c 6 t (scale1 (dyblk V c t)) _ (hloc.scale _ _ _ (cut_dyfill V c t d0))); iexact H6

end Cert.KernelIdeal.Hand

end
-- ==== Proof.RunI.lean ====
/- The whole program's run: from any memory with zero counters, to every buffer of the core at what the host stretches and the
   two regions make of it, region 1's outputs at what its proof data says or, if forgotten, at something. At any float instance. -/
module

public import proofs.«01_k».proof.Proof.DataI

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (b : Bool)

/-! ## The buffers' contents between items -/

/-- Core `c`'s buffers after region 0: its outputs at what its proof data says. -/
def W2 (c : Dev nD) : Valuation τ sig (Elt F) :=
  Function.update (Function.update (Function.update (V1 m c) main_v2_0 ((dat0 (V1 m) c).arrAt 1 cfg0.N)) main_v2_1 ((dat0 (V1 m) c).arrAt 2 cfg0.N)) main_v2_2 ((dat0 (V1 m) c).arrAt 3 cfg0.N)
/-- Core `c`'s buffers when region 1 is entered. -/
def W3 (c : Dev nD) : Valuation τ sig (Elt F) := StableHlo.after hostOps1 (W2 m c)

/-- Contents of the arrays region 1's windows name. -/
abbrev Arr1 (c : Dev nD) : Type := (w : Fin cfg1.W) → Buf (Elt F) ((cfg1.win w).arr.view.loc (c.tc : Thread nD τ))

/-- Window `w`'s array after region 1: what the proof data says, or, forgotten, `A`'s. -/
def out1 (c : Dev nD) (A : Arr1 (F := F) c) (w : Fin cfg1.W) : Buf (Elt F) ((cfg1.win w).arr.view.loc (c.tc : Thread nD τ)) :=
  if b then A w else (dat1 (W3 m) c).arrAt w cfg1.N

/-- Core `c`'s buffers after region 1. -/
def W4 (c : Dev nD) (A : Arr1 (F := F) c) : Valuation τ sig (Elt F) :=
  Function.update (Function.update (Function.update (W3 m c) main_v4_0 (out1 m b c A 4)) main_v4_1 (out1 m b c A 5)) main_v4_2 (out1 m b c A 6)
/-- Core `c`'s buffers at the end. -/
def W5 (c : Dev nD) (A : Arr1 (F := F) c) : Valuation τ sig (Elt F) := StableHlo.after hostOps2 (W4 m b c A)

/-- Region 0 keeps what it does not write, -/
theorem W2_of (c : Dev nD) (r : Ref sig .tc) (h : r ∉ ([main_v2_0, main_v2_1, main_v2_2] : List (Ref sig .tc))) : W2 m c r = V1 m c r := by
  simp only [W2, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1), Function.update_of_ne (StableHlo.devRef_ne_of_ne (List.ne_of_not_mem_cons (List.not_mem_of_not_mem_cons (List.not_mem_of_not_mem_cons h))) : (Proc.devRef .tc r : DevRef τ sig) ≠ Proc.devRef .tc main_v2_2)]
/-- so do the host lines between the regions, -/
theorem W3_of (c : Dev nD) (r : Ref sig .tc) (h : r ∉ hostOps1_W) : W3 m c r = W2 m c r :=
  StableHlo.after_of_writes_sub hostOps1 _ hostOps1_writes h
/-- so does region 1, -/
theorem W4_of (c : Dev nD) (A) (r : Ref sig .tc) (h : r ∉ ([main_v4_0, main_v4_1, main_v4_2] : List (Ref sig .tc))) : W4 m b c A r = W3 m c r := by
  simp only [W4, Function.update_of_ne (StableHlo.devRef_ne_of_ne (List.ne_of_not_mem_cons h) : (Proc.devRef .tc r : DevRef τ sig) ≠ Proc.devRef .tc main_v4_0), Function.update_of_ne (StableHlo.devRef_ne_of_ne (List.ne_of_not_mem_cons (List.not_mem_of_not_mem_cons h)) : (Proc.devRef .tc r : DevRef τ sig) ≠ Proc.devRef .tc main_v4_1), Function.update_of_ne (StableHlo.devRef_ne_of_ne (List.ne_of_not_mem_cons (List.not_mem_of_not_mem_cons (List.not_mem_of_not_mem_cons h))) : (Proc.devRef .tc r : DevRef τ sig) ≠ Proc.devRef .tc main_v4_2)]
/-- and so do the last host lines. -/
theorem W5_of (c : Dev nD) (A) (r : Ref sig .tc) (h : r ∉ hostOps2_W) : W5 m b c A r = W4 m b c A r :=
  StableHlo.after_of_writes_sub hostOps2 _ hostOps2_writes h

/-- Region 0 leaves its codes, -/
theorem W2_v2_0 (c : Dev nD) : W2 m c main_v2_0 = (dat0 (V1 m) c).arrAt 1 cfg0.N := by
  unfold W2
  rw [Function.update_of_ne (StableHlo.devRef_ne_of_ne (by decide)), Function.update_of_ne (StableHlo.devRef_ne_of_ne (by decide)), Function.update_self]
/-- its scales -/
theorem W2_v2_1 (c : Dev nD) : W2 m c main_v2_1 = (dat0 (V1 m) c).arrAt 2 cfg0.N := by
  unfold W2
  rw [Function.update_of_ne (StableHlo.devRef_ne_of_ne (by decide)), Function.update_self]
/-- and its transposed codes. -/
theorem W2_v2_2 (c : Dev nD) : W2 m c main_v2_2 = (dat0 (V1 m) c).arrAt 3 cfg0.N := by
  unfold W2
  rw [Function.update_self]
/-- Region 1 leaves its gradient, -/
theorem W4_v4_0 (c : Dev nD) (A) : W4 m b c A main_v4_0 = out1 m b c A 4 := by
  unfold W4
  rw [Function.update_of_ne (StableHlo.devRef_ne_of_ne (by decide)), Function.update_of_ne (StableHlo.devRef_ne_of_ne (by decide)), Function.update_self]
/-- its codes -/
theorem W4_v4_1 (c : Dev nD) (A) : W4 m b c A main_v4_1 = out1 m b c A 5 := by
  unfold W4
  rw [Function.update_of_ne (StableHlo.devRef_ne_of_ne (by decide)), Function.update_self]
/-- and its scales. -/
theorem W4_v4_2 (c : Dev nD) (A) : W4 m b c A main_v4_2 = out1 m b c A 6 := by
  unfold W4
  rw [Function.update_self]

/-- An argument array reaches the end as launched: nothing writes it. -/
theorem W5_arg (c : Dev nD) (A) (r : Ref sig .tc) (h5 : r ∉ hostOps2_W) (h4 : r ∉ ([main_v4_0, main_v4_1, main_v4_2] : List (Ref sig .tc)))
    (h3 : r ∉ hostOps1_W) (h2 : r ∉ ([main_v2_0, main_v2_1, main_v2_2] : List (Ref sig .tc))) (h1 : r ∉ hostOps0_W) :
    W5 m b c A r = m ((c : Thread nD τ).loc r) :=
  (W5_of m b c A r h5).trans <| (W4_of m b c A r h4).trans <| (W3_of m c r h3).trans <| (W2_of m c r h2).trans <| (V1_of m c r h1).trans rfl

/-! ## The segments -/

/-- The rest of a core's state between items: the generator register at some state, nothing owed. -/
def rest (c : Dev nD) : sProp 𝕄 := iprop((∃ r, prngReg c r) ∗ ∃ W, owes (c : Thread nD τ) (0 : CellTallies nD τ sig Unit) W)

/-- Both pipelines' proof data. -/
def pdats : (p : Fin 2) → (c : Dev nD) → Dat τ (Elt F) Unit ℕ (UR sig nD τ) ℕ (cfgs p) c := fun
  | ⟨0, _⟩ => dat0 (V1 m)
  | ⟨1, _⟩ => dat1 (W3 m)
  | ⟨_ + 2, h⟩ => absurd h (Nat.not_lt.2 (Nat.le_add_left _ _))

/-- The windows forgotten. -/
def fgs : (p : Fin 2) → Fin (cfgs p).W → Bool := fun
  | ⟨0, _⟩ => fun _ => false
  | ⟨1, _⟩ => fg1 b
  | ⟨_ + 2, h⟩ => absurd h (Nat.not_lt.2 (Nat.le_add_left _ _))

/-- The pairs a level is assigned to: the TensorCores' cells. -/
def LL : GSem nD τ sig → Finset Unit := fun g => if g.1.2 = .tc then {()} else ∅
/-- Every level is zero. -/
def lvl : GSem nD τ sig → Unit → ℕ := fun _ _ => 0

/-- A TensorCore's pairs have the level. -/
theorem LL_tc (c : Dev nD) (s : SemLoc sig) : () ∈ LL ((c : Thread nD τ), s) := by
  unfold LL; rw [if_pos rfl]; exact Finset.mem_singleton_self _

/-- Waiting at the staging cells is licensed: the body owes nothing. -/
theorem cut (p : Fin 2) : Pipeline.LevelCut (pcfgs (F := F)) adm () LL lvl p (fun _ => 0) (fun _ => 0) where
  hι c w s := LL_tc c _
  hιb c w s := le_refl _
  hD c g i h := absurd h (lt_irrefl _)

/-- What region 0 leaves: its windows' arrays as its proof data says. -/
theorem arrs0 (c : Dev nD) (w : Fin cfg0.W) : (dat0 (V1 m) c).arrAt w cfg0.N = W2 m c (Proc.devRef .tc (Pipeline.arrRef spec0 w)) := by
  match w with
  | 0 => exact ((dat0 (V1 m) c).arrAt_in 0 rfl _).trans ((A0_eq (V1 m) c 0).trans (W2_of m c main_v0 (by decide)).symm)
  | 1 => exact (W2_v2_0 m c).symm
  | 2 => exact (W2_v2_1 m c).symm
  | 3 => exact (W2_v2_2 m c).symm

/-- What region 1 leaves: its inputs' arrays as found, its outputs' as its proof data says or as forgotten. -/
theorem arrs1 (c : Dev nD) (A : Arr1 (F := F) c) (hA : ∀ w, fg1 b w = false → A w = (dat1 (W3 m) c).arrAt w cfg1.N) (w : Fin cfg1.W) :
    A w = W4 m b c A (Proc.devRef .tc (Pipeline.arrRef spec1 w)) := by
  have hin : ∀ w : Fin cfg1.W, fg1 b w = false → (hw : (cfg1.win w).isOut = false) → A w = W3 m c (Proc.devRef .tc (Pipeline.arrRef spec1 w)) := fun w hf hw =>
    (hA w hf).trans (((dat1 (W3 m) c).arrAt_in w hw _).trans (A1_eq (W3 m) c w))
  have hout : ∀ w : Fin cfg1.W, fg1 b w = b → A w = out1 m b c A w := fun w hf => by
    unfold out1
    cases b
    · exact hA w hf
    · rfl
  match w with
  | 0 => exact (hin 0 rfl rfl).trans (W4_of m b c A main_v1 (by decide)).symm
  | 1 => exact (hin 1 rfl rfl).trans (W4_of m b c A main_v2_2 (by decide)).symm
  | 2 => exact (hin 2 rfl rfl).trans (W4_of m b c A main_v3 (by decide)).symm
  | 3 => exact (hin 3 rfl rfl).trans (W4_of m b c A main_arg2 (by decide)).symm
  | 4 => exact (hout 4 rfl).trans (W4_v4_0 m b c A).symm
  | 5 => exact (hout 5 rfl).trans (W4_v4_1 m b c A).symm
  | 6 => exact (hout 6 rfl).trans (W4_v4_2 m b c A).symm

/-- A buffer no window of region 0 names is as region 0 found it. -/
theorem others0 (c : Dev nD) (d : DevRef τ sig) (hd : d ∉ (Pipeline.arrRefs (τ := τ) spec0)) : W2 m c d = V1 m c d := by
  have hne : ∀ w : Fin cfg0.W, d ≠ Proc.devRef .tc (Pipeline.arrRef spec0 w) := fun w h => hd (by
    rw [h]; exact Finset.mem_map.mpr ⟨_, Finset.mem_image.mpr ⟨w, Finset.mem_univ _, rfl⟩, rfl⟩)
  unfold W2
  rw [Function.update_of_ne (hne 3), Function.update_of_ne (hne 2), Function.update_of_ne (hne 1)]

/-- A buffer no window of region 1 names is as region 1 found it. -/
theorem others1 (c : Dev nD) (A) (d : DevRef τ sig) (hd : d ∉ (Pipeline.arrRefs (τ := τ) spec1)) : W4 m b c A d = W3 m c d := by
  have hne : ∀ w : Fin cfg1.W, d ≠ Proc.devRef .tc (Pipeline.arrRef spec1 w) := fun w h => hd (by
    rw [h]; exact Finset.mem_map.mpr ⟨_, Finset.mem_image.mpr ⟨w, Finset.mem_univ _, rfl⟩, rfl⟩)
  unfold W4
  rw [Function.update_of_ne (hne 6), Function.update_of_ne (hne 5), Function.update_of_ne (hne 4)]

/-- Region 0's windows' arrays are unscoped. -/
theorem sub0 : Pipeline.arrRefs (τ := τ) spec0 ⊆ Pipeline.ucRefs τ sig := Pipeline.arrRefs_sub_ucRefs spec0 (by decide)
/-- Region 1's windows' arrays are unscoped. -/
theorem sub1 : Pipeline.arrRefs (τ := τ) spec1 ⊆ Pipeline.ucRefs τ sig := Pipeline.arrRefs_sub_ucRefs spec1 (by decide)

/-- The kernel has no semaphore of its own. -/
def noSem : PEmpty → SemLoc sig := fun k => k.elim

/-- The invariant from what the region enters with. -/
theorem enter {gr W : ℕ} (win : Fin W → Pipeline.WinSpec sig gr) (c : Dev nD) (V : Valuation τ sig (Elt F)) :
    iprop(Pipeline.scopedRest win c ∗ (∃ r, prngReg c r) ∗ Pipeline.ownSems0 noSem c
        ∗ (bigSep (∅ : Finset (Ref sig .tc)) fun b => ((c.tc : Thread nD τ).loc b) ↦{fullShare} V (Proc.devRef .tc b))
        ∗ (bigSep (∅ : Finset (Ref sig .tc)) fun b => iprop(∃ f, ((c.tc : Thread nD τ).loc b) ↦{fullShare} f)) ∗ Transfers.MayWaits (c : Thread nD τ) () (0 : CellTallies nD τ sig Unit))
      ⊢ (Pipeline.ΦA win c : sProp 𝕄) := by
  unfold Pipeline.ΦA
  iintro ⟨Hs, Hp, -, -, -, -⟩
  isplitl [Hs]; · iexact Hs
  iexact Hp

/-- What the region leaves with from the invariant. -/
theorem leave {gr W : ℕ} (win : Fin W → Pipeline.WinSpec sig gr) (c : Dev nD) (V : Valuation τ sig (Elt F)) :
    (Pipeline.ΦA win c : sProp 𝕄)
      ⊢ iprop(Pipeline.scopedRest win c ∗ (∃ r, prngReg c r) ∗ Pipeline.ownSems0 noSem c
        ∗ (bigSep (∅ : Finset (Ref sig .tc)) fun b => ((c.tc : Thread nD τ).loc b) ↦{fullShare} V (Proc.devRef .tc b))
        ∗ (bigSep (∅ : Finset (Ref sig .tc)) fun b => iprop(∃ f, ((c.tc : Thread nD τ).loc b) ↦{fullShare} f))) := by
  unfold Pipeline.ΦA
  rw [show (Pipeline.ownSems0 noSem c : sProp 𝕄) = BI.emp from Pipeline.ownSems0_none _ _ _ _ _ _ _ _ c, BI.bigSep_empty, BI.bigSep_empty]
  iintro ⟨Hs, Hp⟩
  isplitl [Hs]; · iexact Hs
  isplitl [Hp]; · iexact Hp
  isplitr; · iempintro
  isplitr; · iempintro
  iempintro

/-- No pipelines' buffers besides its windows' arrays are read or written by a transfer of the body's own. -/
theorem hbm_empty : Pipeline.hbmRefs (τ := τ) (sig := sig) ∅ = ∅ := by
  unfold Pipeline.hbmRefs; exact Finset.map_empty _

/-- Region 0 as a segment. -/
def reg0 : RDat.RegionSeg (pcfgs (F := F)) adm (Pipeline.toRsF (pcfgs (F := F)) adm (pdats m) (fgs b)) () defs₀ Variants.none LL lvl 0 :=
  Pipeline.RDat.RegionSeg.ofHeldF (pcfgs (F := F)) adm (pdats m) () defs₀ Variants.none LL lvl 0 (fun _ => 0) (fgs b) () noSem (Pipeline.OwnSemFacts.none _)
    ∅ ∅ (Pipeline.ucRefs τ sig \ Pipeline.arrRefs spec0) (by rw [hbm_empty]; exact Finset.empty_subset _) (by rw [hbm_empty]; exact Finset.empty_subset _)
    launch0.toP rfl (fun c => (obligation0 (V1 m) c).loose) (fun _ _ => rfl) (fun _ => rfl)
    (fun c => (dat0 (V1 m) c).share_full fun _ => rfl) (fun c => by iintro -; iapply (Transfers.MayWaits.zero (c : Thread nD τ) ()); iempintro)
    (V1 m) (fun c _ _ => W2 m c)
    (fun c A g hA w => (hA w rfl).trans (arrs0 m c w)) (fun c A g b hb => absurd hb (Finset.notMem_empty _))
    (fun c A g d hd => others0 m c d (by rw [hbm_empty, Finset.sdiff_empty, Finset.sdiff_empty] at hd; exact (Finset.mem_sdiff.mp hd).2))
    (fun c A g d hd => by rw [hbm_empty] at hd; exact absurd hd (Finset.notMem_empty _))
    (fun c => enter spec0 c (V1 m c)) (fun c => leave spec0 c (V1 m c)) (fun _ => 0) (cut 0) (fun _ => BI.emp) (fun c w => A0_eq (V1 m) c w)

/-- Region 1 as a segment, from its body's obligation with the forgotten windows `fg1 b`. -/
def reg1 (hbody : ∀ c, BodyObligationLoose (dat1 (W3 m) c) defs₀ Variants.none () Set.univ (fg1 b)) :
    RDat.RegionSeg (pcfgs (F := F)) adm (Pipeline.toRsF (pcfgs (F := F)) adm (pdats m) (fgs b)) () defs₀ Variants.none LL lvl 1 :=
  Pipeline.RDat.RegionSeg.ofHeldF (pcfgs (F := F)) adm (pdats m) () defs₀ Variants.none LL lvl 1 (fun _ => 0) (fgs b) () noSem (Pipeline.OwnSemFacts.none _)
    ∅ ∅ (Pipeline.ucRefs τ sig \ Pipeline.arrRefs spec1) (by rw [hbm_empty]; exact Finset.empty_subset _) (by rw [hbm_empty]; exact Finset.empty_subset _)
    launch1.toP rfl hbody (fun _ _ => rfl) (fun _ => rfl)
    (fun c => (dat1 (W3 m) c).share_full fun _ => rfl) (fun c => by iintro -; iapply (Transfers.MayWaits.zero (c : Thread nD τ) ()); iempintro)
    (W3 m) (fun c A _ => W4 m b c A)
    (fun c A g hA w => arrs1 m b c A hA w) (fun c A g b hb => absurd hb (Finset.notMem_empty _))
    (fun c A g d hd => others1 m b c A d (by rw [hbm_empty, Finset.sdiff_empty, Finset.sdiff_empty] at hd; exact (Finset.mem_sdiff.mp hd).2))
    (fun c A g d hd => by rw [hbm_empty] at hd; exact absurd hd (Finset.notMem_empty _))
    (fun c => enter spec1 c (W3 m c)) (fun c => leave spec1 c (W3 m c)) (fun _ => 0) (cut 1) (fun _ => BI.emp) (fun c w => A1_eq (W3 m) c w)

/-- The host stretch before region 0. -/
def host0 : HostSeg (Ix := Unit) (Name := ℕ) (U := UR sig nD τ) (Lvl := ℕ) (pcfgs (F := F)) defs₀ Variants.none LL lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
/-- The host stretch between the regions. -/
def host1 : HostSeg (Ix := Unit) (Name := ℕ) (U := UR sig nD τ) (Lvl := ℕ) (pcfgs (F := F)) defs₀ Variants.none LL lvl :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) rest

set_option backward.isDefEq.respectTransparency.types false in
/-- The host stretch after region 1, from whatever contents that region's forgotten outputs have. -/
def host2 : HostSeg (Ix := Unit) (Name := ℕ) (U := UR sig nD τ) (Lvl := ℕ) (pcfgs (F := F)) defs₀ Variants.none LL lvl where
  prog := StableHlo.seq hostOps2
  pre c := iprop(∃ A, StableHlo.held (c.tc : Thread nD τ) (Pipeline.ucRefs τ sig) (W4 m b c A) ∗ rest c)
  post c := iprop(∃ A, StableHlo.held (c.tc : Thread nD τ) (Pipeline.ucRefs τ sig) (W5 m b c A) ∗ rest c)
  run c {β} k K := by
    iintro ⟨Hk, Hbd, ⟨%A, Hh, HR⟩, -⟩
    have hseq := StableHlo.wp_seq (defs := Pipeline.defs (pcfgs (F := F)) defs₀) (Variants.lift Variants.none) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W4 m b c A)
    iapply hseq $$ [Hbd Hh]
    · isplitl [Hbd] <;> iassumption
    iintro ⟨Hbd, Hh⟩
    iapply Hk
    isplitl [Hbd]; · iexact Hbd
    iexists A
    isplitl [Hh]; · iexact Hh
    iexact HR

/-- The program's items in order, on every core. -/
def items (hbody : ∀ c, BodyObligationLoose (dat1 (W3 m) c) defs₀ Variants.none () Set.univ (fg1 b)) :
    List (RDat.Seg (Ix := Unit) (Name := ℕ) (U := UR sig nD τ) (Lvl := ℕ) (pcfgs (F := F)) adm (Pipeline.toRsF (pcfgs (F := F)) adm (pdats m) (fgs b)) () defs₀ Variants.none LL lvl) :=
  [.host (host0 m), .region (reg0 m b), .host (host1 m), .region (reg1 m b hbody), .host (host2 m b)]

/-- Entering a region: the windows' arrays taken out of the unscoped buffers. -/
theorem into (T : Finset (DevRef τ sig)) (hT : T ⊆ Pipeline.ucRefs τ sig) (c : Dev nD) (V : Valuation τ sig (Elt F)) :
    iprop(StableHlo.held (c.tc : Thread nD τ) (Pipeline.ucRefs τ sig) V ∗ rest c)
      ⊢ (iprop(StableHlo.held (c.tc : Thread nD τ) T V ∗ (∃ r, prngReg c r)
        ∗ (StableHlo.held (c.tc : Thread nD τ) (Pipeline.ucRefs τ sig \ T) V ∗ BI.emp) ∗ ∃ Wd, owes (c : Thread nD τ) (0 : CellTallies nD τ sig Unit) Wd) : sProp 𝕄) := by
  rw [StableHlo.held_sub_split _ hT]
  unfold rest
  iintro ⟨⟨Ha, Hr⟩, Hp, Ho⟩
  isplitl [Ha]; · iexact Ha
  isplitl [Hp]; · iexact Hp
  isplitl [Hr]
  · isplitl [Hr]; · iexact Hr
    iempintro
  iexact Ho

/-- Leaving a region: the windows' arrays put back among the unscoped buffers. -/
theorem outof (T : Finset (DevRef τ sig)) (hT : T ⊆ Pipeline.ucRefs τ sig) (c : Dev nD) (V : Valuation τ sig (Elt F)) :
    (iprop(StableHlo.held (c.tc : Thread nD τ) T V ∗ (∃ r, prngReg c r)
        ∗ (StableHlo.held (c.tc : Thread nD τ) (Pipeline.ucRefs τ sig \ T) V ∗ BI.emp) ∗ ∃ Wd, owes (c : Thread nD τ) (0 : CellTallies nD τ sig Unit) Wd) : sProp 𝕄)
      ⊢ iprop(StableHlo.held (c.tc : Thread nD τ) (Pipeline.ucRefs τ sig) V ∗ rest c) := by
  rw [StableHlo.held_sub_split _ hT]
  unfold rest
  iintro ⟨Ha, Hp, ⟨Hr, -⟩, Ho⟩
  isplitl [Ha Hr]
  · isplitl [Ha]; · iexact Ha
    iexact Hr
  isplitl [Hp]; · iexact Hp
  iexact Ho

set_option backward.isDefEq.respectTransparency.types false in
/-- Each item runs from the state the one before it leaves. -/
theorem chains (hbody : ∀ c, BodyObligationLoose (dat1 (W3 m) c) defs₀ Variants.none () Set.univ (fg1 b)) (c : Dev nD) :
    RDat.Seg.ChainsAt c (fun c => iprop(StableHlo.held (c : Thread nD τ) (Pipeline.ucRefs τ sig) (V0 m c) ∗ rest c)) (items m b hbody)
      (fun c => iprop((∃ A, StableHlo.held (c.tc : Thread nD τ) (Pipeline.ucRefs τ sig) (W5 m b c A)) ∗ ∃ W, owes (c.tc : Thread nD τ) (0 : CellTallies nD τ sig Unit) W)) := by
  refine ⟨.rfl, into _ sub0 c (V1 m c), ?_, into _ sub1 c (W3 m c), ?_, ?_⟩
  · exact (show iprop(∃ A g, StableHlo.held (c.tc : Thread nD τ) (Pipeline.arrRefs spec0) (W2 m c) ∗ (∃ r, prngReg c r)
      ∗ (StableHlo.held (c.tc : Thread nD τ) (Pipeline.ucRefs τ sig \ Pipeline.arrRefs spec0) (W2 m c) ∗ BI.emp) ∗ ∃ Wd, owes (c : Thread nD τ) (0 : CellTallies nD τ sig Unit) Wd)
        ⊢ (iprop(StableHlo.held (c.tc : Thread nD τ) (Pipeline.ucRefs τ sig) (W2 m c) ∗ rest c) : sProp 𝕄) from by
        iintro ⟨%A, %g, H⟩
        iapply (outof _ sub0 c (W2 m c)) $$ H)
  · exact (show iprop(∃ A g, StableHlo.held (c.tc : Thread nD τ) (Pipeline.arrRefs spec1) (W4 m b c A) ∗ (∃ r, prngReg c r)
      ∗ (StableHlo.held (c.tc : Thread nD τ) (Pipeline.ucRefs τ sig \ Pipeline.arrRefs spec1) (W4 m b c A) ∗ BI.emp) ∗ ∃ Wd, owes (c : Thread nD τ) (0 : CellTallies nD τ sig Unit) Wd)
        ⊢ (iprop(∃ A, StableHlo.held (c.tc : Thread nD τ) (Pipeline.ucRefs τ sig) (W4 m b c A) ∗ rest c) : sProp 𝕄) from by
        iintro ⟨%A, %g, H⟩
        iexists A
        iapply (outof _ sub1 c (W4 m b c A)) $$ H)
  · exact (show iprop(∃ A, StableHlo.held (c.tc : Thread nD τ) (Pipeline.ucRefs τ sig) (W5 m b c A) ∗ rest c) ⊢ _ from by
        unfold rest
        iintro ⟨%A, H, -, Ho⟩
        isplitl [H]
        · iexists A; iexact H
        iexact Ho)

set_option backward.isDefEq.respectTransparency.types false in
/-- The run: every weakly fair execution ends, every unscoped buffer of the core at the last contents `W5` — region 1's outputs
    at its proof data's, or, forgotten, at some contents — and every semaphore at zero. -/
theorem run (hbody : ∀ c, BodyObligationLoose (dat1 (W3 m) c) defs₀ Variants.none () Set.univ (fg1 b)) :
    θ_run defs (onTc (τ := τ) (main (F := F))) ⟨m, fun _ => 0, ρ⟩ (fun r => (∀ c : Dev nD, ∃ A : Arr1 (F := F) c,
      ∀ d ∈ Pipeline.ucRefs τ sig, r.2.mem ((c : Thread nD τ).1, d) = W5 m b c A d) ∧ r.2.sem = fun _ => 0) := by
  refine Pipeline.RDat.θ_run_regions_kit_dev_sems (pcfgs (F := F)) adm (Pipeline.toRsF (pcfgs (F := F)) adm (pdats m) (fgs b)) () cellOf_inj emb₁ defs₀ Variants.none LL lvl m ρ main
    (fun _ => items m b hbody)
    (fun c Q => by
      rewrite [main_chain c, RDat.Seg.run_eq_chain,
        show (items m b hbody).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide) (fun _ => 0)
    (fun g hg => by unfold LL; rw [if_neg hg]) (fun _ => BI.emp) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => iprop(∃ A, StableHlo.held (c.tc : Thread nD τ) (Pipeline.ucRefs τ sig) (W5 m b c A)))
    (hch := chains m b hbody)
    (hinit := ?_) (QY := fun c s => ∃ A : Arr1 (F := F) c, ∀ d ∈ Pipeline.ucRefs τ sig, s.mem ((c : Thread nD τ).1, d) = W5 m b c A d)
    (hfin := fun c s' => ?_) (hQ := fun _ h hz => ⟨h, funext fun g => hz g (.inr (regions_no_unscoped g.2))⟩)
  · refine Pipeline.initEach LL lvl fun c => ?_
    rw [show unscopedBufs c (fun b => m ((c : Thread nD τ).loc b)) = StableHlo.held (c : Thread nD τ) (Pipeline.ucRefs τ sig) (V0 m c) from Pipeline.unscopedBufs_held c (V0 m c)]
    unfold rest
    iintro ⟨⟨Hh, -, HO, -, Hp, -⟩, -⟩
    imodintro
    isplitl [Hh]; · iexact Hh
    isplitl [Hp]; · iexists _; iexact Hp
    iexists ∅; iexact HO
  · unfold StableHlo.held
    iintro ⟨⟨%A, Hh⟩, HSI⟩
    ihave Hr := (pointsTo_read_all (Pipeline.ucRefs τ sig) (fun d => ((c : Thread nD τ).1, d)) (W5 m b c A) s') $$ [Hh HSI]
    · isplitl [Hh] <;> iassumption
    icases Hr with ⟨%h, HSI⟩
    imodintro
    isplitr
    · ipureintro; exact ⟨A, h⟩
    · iexact HSI

/-- An unscoped TensorCore reference's buffer is among those the run names. -/
theorem mem_uc (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; exact Bool.false_ne_true⟩

/-- The frame: every execution ends with the arguments as launched and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run m ρ true fun c => obligation1_forget (W3 m) c)
  obtain ⟨A, hA⟩ := h.1 c
  exact ⟨(hA _ (mem_uc main_arg0 rfl)).trans (W5_arg m true c A main_arg0 (by decide) (by decide) (by decide) (by decide) (by decide)),
    (hA _ (mem_uc main_arg1 rfl)).trans (W5_arg m true c A main_arg1 (by decide) (by decide) (by decide) (by decide) (by decide)),
    (hA _ (mem_uc main_arg2 rfl)).trans (W5_arg m true c A main_arg2 (by decide) (by decide) (by decide) (by decide) (by decide))⟩

end Cert.KernelIdeal.Hand

end
-- ==== Proof.Math.lean ====
/- The arithmetic of one column's scale: the kernel's binary search over the exponent field and the powers of two it builds
   from it are the reference's power of two from a logarithm, in the extended reals. -/
module

public import Idealize.ShloMosaic.Lib.Pointwise

@[expose] public section

set_option maxRecDepth 16384

noncomputable section

namespace Cert.Wgrad

open Idealize.ShloMosaic

/-! ## The floats whose exponent field is `n` and whose other bits are zero -/

/-- The float32 of bits `k << 23`. -/
def thr (k : BitVec 32) : EReal := Ideal.ofBits .f32 (IntOp.shli .vector k 23#32)

/-- What it is for the field `n`: zero, a power of two, or infinity. -/
def T (n : ℕ) : EReal := if n = 0 then 0 else if n < 255 then (((2 : ℝ) ^ ((n : ℤ) - 127) : ℝ) : EReal) else ⊤

/-- A threshold that is a power of two. -/
theorem T_pow {n : ℕ} (h0 : n ≠ 0) (h : n < 255) : T n = (((2 : ℝ) ^ ((n : ℤ) - 127) : ℝ) : EReal) := by
  unfold T; rw [if_neg h0, if_pos h]

/-- The sign, exponent and fraction fields of `n << 23`. -/
theorem fields (n : Fin 256) : ((BitVec.ofNat 32 n.val <<< (23#32)).extractLsb' 31 1 == 1#1) = false
    ∧ ((BitVec.ofNat 32 n.val <<< (23#32)).extractLsb' 23 8).toNat = n.val
    ∧ ((BitVec.ofNat 32 n.val <<< (23#32)).extractLsb' 0 23).toNat = 0 := by
  revert n; decide

/-- The float32 of bits `n << 23` denotes `T n`. -/
theorem thr_eq {n : ℕ} (h : n ≤ 255) : thr (BitVec.ofNat 32 n) = T n := by
  obtain ⟨h1, h2, h3⟩ := fields ⟨n, by omega⟩
  simp only at h1 h2 h3
  unfold thr T
  have hs : IntOp.shli .vector (BitVec.ofNat 32 n) 23#32 = BitVec.ofNat 32 n <<< (23#32) := by
    unfold IntOp.shli; rw [if_pos (by decide)]
  rw [hs]
  show Ideal.ieee 8 23 _ = _
  unfold Ideal.ieee
  simp only [Nat.reduceAdd, h1, h2, h3]
  by_cases h255 : n = 255
  · subst h255; norm_num
  · by_cases h0 : n = 0
    · subst h0; norm_num
    · have hlt : n < 255 := by omega
      rw [if_neg (by rw [show 2 ^ 8 - 1 = 255 by norm_num]; exact h255), if_neg h0, if_neg h0, if_pos hlt]
      refine congrArg (fun r : ℝ => (r : EReal)) ?_
      rw [if_neg (by decide), one_mul, Nat.add_zero, Nat.cast_pow, Nat.cast_ofNat, ← zpow_natCast, ← zpow_add₀ (by norm_num : (2:ℝ) ≠ 0)]
      refine congrArg (fun z : ℤ => (2:ℝ) ^ z) ?_
      have : (2 : ℤ) ^ (8 - 1) = 128 := by norm_num
      omega

/-! ## The binary search -/

/-- One step of the search: `b` is added to the field `k` if the threshold of `k + b` is at most `v`. -/
def step (v : EReal) (k b : BitVec 32) : BitVec 32 :=
  Scalar.select (Ideal.cmp .oge v (thr (IntOp.addi k b))) (IntOp.addi k b) k

/-- The field the eight steps end with. -/
def expo (v : EReal) : BitVec 32 :=
  step v (step v (step v (step v (step v (step v (step v (step v 0#32 128#32) 64#32) 32#32) 16#32) 8#32) 4#32) 2#32) 1#32

/-- One step halves the interval the value lies in. -/
theorem step_spec {v : EReal} {n b : ℕ} (h : n + 2 * b ≤ 256) (hb : 0 < b) (hl : T n ≤ v) (hu : v < T (n + 2 * b)) :
    ∃ n' : ℕ, step v (BitVec.ofNat 32 n) (BitVec.ofNat 32 b) = BitVec.ofNat 32 n' ∧ (n' = n ∨ n' = n + b) ∧ T n' ≤ v ∧ v < T (n' + b) := by
  have ha : IntOp.addi (BitVec.ofNat 32 n) (BitVec.ofNat 32 b) = BitVec.ofNat 32 (n + b) := by
    unfold IntOp.addi; rw [BitVec.ofNat_add]
  unfold step
  rw [ha, thr_eq (by omega)]
  by_cases hc : T (n + b) ≤ v
  · refine ⟨n + b, ?_, .inr rfl, hc, by rwa [show n + b + b = n + 2 * b by ring]⟩
    simp [Ideal.cmp, hc, Scalar.select]
  · refine ⟨n, ?_, .inl rfl, hl, lt_of_not_ge hc⟩
    simp [Ideal.cmp, hc, Scalar.select]

/-- The search ends with the field `n` of the value: `T n ≤ v < T (n + 1)`. -/
theorem expo_spec {v : EReal} (h0 : 0 ≤ v) (h : v < ⊤) : ∃ n : ℕ, n < 255 ∧ expo v = BitVec.ofNat 32 n ∧ T n ≤ v ∧ v < T (n + 1) := by
  have hT : T (0 + 2 * 128) = ⊤ := by unfold T; norm_num
  obtain ⟨n1, e1, d1, l1, u1⟩ := step_spec (v := v) (n := 0) (b := 128) (by norm_num) (by norm_num) (by unfold T; simpa using h0) (by rw [hT]; exact h)
  obtain ⟨n2, e2, d2, l2, u2⟩ := step_spec (v := v) (n := n1) (b := 64) (by omega) (by norm_num) l1 u1
  obtain ⟨n3, e3, d3, l3, u3⟩ := step_spec (v := v) (n := n2) (b := 32) (by omega) (by norm_num) l2 u2
  obtain ⟨n4, e4, d4, l4, u4⟩ := step_spec (v := v) (n := n3) (b := 16) (by omega) (by norm_num) l3 u3
  obtain ⟨n5, e5, d5, l5, u5⟩ := step_spec (v := v) (n := n4) (b := 8) (by omega) (by norm_num) l4 u4
  obtain ⟨n6, e6, d6, l6, u6⟩ := step_spec (v := v) (n := n5) (b := 4) (by omega) (by norm_num) l5 u5
  obtain ⟨n7, e7, d7, l7, u7⟩ := step_spec (v := v) (n := n6) (b := 2) (by omega) (by norm_num) l6 u6
  obtain ⟨n8, e8, d8, l8, u8⟩ := step_spec (v := v) (n := n7) (b := 1) (by omega) (by norm_num) l7 u7
  refine ⟨n8, ?_, ?_, l8, u8⟩
  · by_contra hn
    have : T n8 = ⊤ := by unfold T; rw [if_neg (by omega), if_neg (by omega)]
    rw [this] at l8; exact absurd h (not_lt.2 l8)
  · unfold expo
    rw [show (0#32 : BitVec 32) = BitVec.ofNat 32 0 from rfl, e1, e2, e3, e4, e5, e6, e7, e8]

/-! ## The scale and its reciprocal -/

/-- Whether the field is 0 or 255. -/
def flat (v : EReal) : BitVec 1 := IntOp.ori (IntOp.cmpi .eq (expo v) 0#32) (IntOp.cmpi .eq (expo v) 255#32)
/-- The kernel's exponent. -/
def ex (v : EReal) : BitVec 32 := Scalar.select (flat v) 0#32 (IntOp.subi (expo v) 126#32)
/-- The kernel's scale. -/
def scaleK (v : EReal) : EReal := thr (IntOp.addi (ex v) 127#32)
/-- The kernel's reciprocal of the scale. -/
def invK (v : EReal) : EReal := thr (IntOp.subi 127#32 (ex v))

/-- The reference's exponent. -/
def exR (amax v : EReal) : EReal :=
  Scalar.select (Ideal.cmp .oeq amax (Ideal.ofBits .f32 0x00000000#32)) (Ideal.ofBits .f32 0x00000000#32)
    (Scalar.select (IntOp.ori (Ideal.cmp .olt v (Ideal.ofBits .f32 0x00800000#32)) (Ideal.cmp .oeq v (Ideal.ofBits .f32 0x7F800000#32))) (Ideal.ofBits .f32 0x00000000#32)
      (Ideal.liftRound Int.floor (Ideal.div (Ideal.log v) (Ideal.log (Ideal.ofBits .f32 0x40000000#32))) + Ideal.ofBits .f32 0x3F800000#32))
/-- The reference's scale. -/
def scaleR (amax v : EReal) : EReal := Ideal.exp2 (exR amax v)
/-- The reference's reciprocal of the scale. -/
def invR (amax v : EReal) : EReal := Ideal.exp2 (Ideal.ofBits .f32 0x00000000#32 - exR amax v)

/-- The smallest normal float32 is the threshold of field 1. -/
theorem ofBits_tiny : Ideal.ofBits .f32 0x00800000#32 = T 1 := thr_eq (n := 1) (by norm_num)
/-- The float32 two is two. -/
theorem ofBits_two : Ideal.ofBits .f32 0x40000000#32 = ((2 : ℝ) : EReal) := by
  have h : Ideal.ofBits .f32 0x40000000#32 = T 128 := thr_eq (n := 128) (by norm_num)
  rw [h, T_pow (by norm_num) (by norm_num)]; norm_num

/-- The float32 infinity is infinite. -/
theorem ofBits_inf : Ideal.ofBits .f32 0x7F800000#32 = ⊤ := (thr_eq (n := 255) (by norm_num)).trans (by unfold T; norm_num)

/-- The search's field of an infinite value: every step adds. -/
theorem expo_top : expo ⊤ = 255#32 := by
  have h : ∀ k b, step ⊤ k b = IntOp.addi k b := fun k b => by
    unfold step
    have : Ideal.cmp .oge ⊤ (thr (IntOp.addi k b)) = 1#1 := by simp [Ideal.cmp]
    rw [this]; rfl
  unfold expo; simp only [h]; decide

/-- Where the kernel's exponent is 0 and so is the reference's, both scales and both reciprocals are 1. -/
theorem scale_one {amax v : EReal} (hx : ex v = 0#32) (hr : exR amax v = 0) : scaleK v = scaleR amax v ∧ invK v = invR amax v := by
  have h127 : T 127 = 1 := by rw [T_pow (by norm_num) (by norm_num)]; norm_num
  have e1 : (1 : EReal) = Ideal.exp2 0 := by
    show (1 : EReal) = ((Real.rpow 2 0 : ℝ) : EReal)
    simp
  constructor
  · unfold scaleK scaleR; rw [hx, hr, ← e1, ← h127]; exact thr_eq (n := 127) (by norm_num)
  · unfold invK invR; rw [hx, hr]; simp only [Ideal.ofBits_zero_f32, sub_zero]; rw [← e1, ← h127]; exact thr_eq (n := 127) (by norm_num)

/-- The reference's exponent is 0 where its value is below the smallest normal float32 or infinite. -/
theorem exR_zero {amax v : EReal} (h : v < T 1 ∨ v = ⊤) : exR amax v = 0 := by
  unfold exR
  rw [ofBits_tiny, ofBits_inf]
  have : IntOp.ori (Ideal.cmp .olt v (T 1)) (Ideal.cmp .oeq v ⊤) = 1#1 := by
    rcases h with h | h
    · have e : Ideal.cmp .olt v (T 1) = 1#1 := by simp [Ideal.cmp, h]
      rw [e]; generalize Ideal.cmp .oeq v ⊤ = b; revert b; decide
    · have e : Ideal.cmp .oeq v ⊤ = 1#1 := by simp [Ideal.cmp, h]
      rw [e]; generalize Ideal.cmp .olt v (T 1) = b; revert b; decide
  rw [this]
  have hs : ∀ c : BitVec 1, ∀ a b : EReal, a = b → Scalar.select c a b = a := by
    intro c a b hab; subst hab; unfold Scalar.select; split <;> rfl
  rw [hs _ _ _ (by simp [Scalar.select])]
  simp

/-- For an infinite value, the kernel's scale and reciprocal are the reference's. -/
theorem scale_top {amax : EReal} : scaleK ⊤ = scaleR amax ⊤ ∧ invK ⊤ = invR amax ⊤ :=
  scale_one (by unfold ex flat; rw [expo_top]; rfl) (exR_zero (.inr rfl))

/-- For a value that is a real number below 2^126, the kernel's scale and reciprocal are the reference's. -/
theorem scale_eq {amax v : EReal} (hz : amax = 0 → v = 0) (h0 : 0 ≤ v) (h : v < T 253) : scaleK v = scaleR amax v ∧ invK v = invR amax v := by
  obtain ⟨n, hn, he, hl, hu⟩ := expo_spec h0 (h.trans_le le_top)
  by_cases hn0 : n = 0
  · subst hn0
    exact scale_one (by unfold ex flat; rw [he]; rfl) (exR_zero (.inl hu))
  · have hTn := T_pow hn0 hn
    have hn253 : n < 253 := by
      by_contra hc
      have h1 : T 253 ≤ T n := by
        rw [hTn, T_pow (by norm_num) (by norm_num)]
        exact EReal.coe_le_coe_iff.2 (zpow_le_zpow_right₀ (by norm_num : (1:ℝ) ≤ 2) (by omega))
      exact absurd (h1.trans hl) (not_le.2 h)
    have hx : ex v = BitVec.ofNat 32 n - 126#32 := by
      have : ∀ k : Fin 255, k.val ≠ 0 → IntOp.ori (IntOp.cmpi .eq (BitVec.ofNat 32 k.val) 0#32) (IntOp.cmpi .eq (BitVec.ofNat 32 k.val) 255#32) = 0#1 := by decide
      unfold ex flat; rw [he, this ⟨n, hn⟩ hn0]; rfl
    have hs : IntOp.addi (ex v) 127#32 = BitVec.ofNat 32 (n + 1) := by
      rw [hx]
      have : ∀ k : Fin 255, IntOp.addi (BitVec.ofNat 32 k.val - 126#32) 127#32 = BitVec.ofNat 32 (k.val + 1) := by decide
      exact this ⟨n, hn⟩
    have hi : IntOp.subi 127#32 (ex v) = BitVec.ofNat 32 (253 - n) := by
      rw [hx]
      have : ∀ k : Fin 253, IntOp.subi 127#32 (BitVec.ofNat 32 k.val - 126#32) = BitVec.ofNat 32 (253 - k.val) := by decide
      exact this ⟨n, hn253⟩
    -- the value as a real number
    have hvt : v < ⊤ := h.trans_le le_top
    lift v to ℝ using ⟨hvt.ne, (lt_of_lt_of_le (by exact EReal.bot_lt_zero) h0).ne'⟩
    have hl' : (2:ℝ) ^ ((n : ℤ) - 127) ≤ v := by rw [hTn] at hl; exact_mod_cast hl
    have hu' : v < (2:ℝ) ^ ((n : ℤ) + 1 - 127) := by
      rw [T_pow (by omega) (by omega)] at hu; exact_mod_cast hu
    have hv : 0 < v := lt_of_lt_of_le (by positivity) hl'
    have hlog : 0 < Real.log 2 := Real.log_pos (by norm_num)
    have hfl : ⌊Real.log v * (Real.log 2)⁻¹⌋ = (n : ℤ) - 127 := by
      rw [Int.floor_eq_iff]
      have h1 : ((n : ℤ) - 127 : ℤ) * Real.log 2 ≤ Real.log v := by
        rw [← Real.log_zpow]; exact Real.log_le_log (by positivity) hl'
      have h2 : Real.log v < (((n : ℤ) + 1 - 127 : ℤ)) * Real.log 2 := by
        rw [← Real.log_zpow]; exact Real.log_lt_log hv hu'
      rw [← div_eq_mul_inv]
      constructor
      · rw [le_div_iff₀ hlog]; exact h1
      · rw [div_lt_iff₀ hlog]; refine h2.trans_le (le_of_eq ?_); push_cast; ring
    have hr : exR amax v = ((((n : ℤ) - 126 : ℤ) : ℝ) : EReal) := by
      have ha : Ideal.cmp .oeq amax 0 = 0#1 := by
        have : amax ≠ 0 := fun h => by have := hz h; norm_cast at this; exact hv.ne' this
        simp [Ideal.cmp, this]
      have hc : Ideal.cmp .olt (v : EReal) (T 1) = 0#1 := by
        have : ¬ ((v : EReal) < T 1) := by
          rw [T_pow (by norm_num) (by norm_num), not_lt]
          have : (2:ℝ) ^ (((1:ℕ) : ℤ) - 127) ≤ v := (zpow_le_zpow_right₀ (by norm_num : (1:ℝ) ≤ 2) (by omega)).trans hl'
          exact_mod_cast this
        simp [Ideal.cmp, this]
      have hi : Ideal.cmp .oeq (v : EReal) ⊤ = 0#1 := by simp [Ideal.cmp]
      have ho : IntOp.ori 0#1 0#1 = 0#1 := rfl
      unfold exR
      rw [ofBits_tiny, ofBits_inf, ofBits_two, Ideal.ofBits_zero_f32, Ideal.ofBits_one_f32, ha, hc, hi, ho]
      have e1 : Ideal.log (v : EReal) = ((Real.log v : ℝ) : EReal) := by
        show (if v ≤ 0 then ⊥ else (Real.log v : EReal)) = _
        rw [if_neg (not_le.2 hv)]
      have e2 : Ideal.log ((2 : ℝ) : EReal) = ((Real.log 2 : ℝ) : EReal) := by
        show (if (2:ℝ) ≤ 0 then ⊥ else (Real.log 2 : EReal)) = _
        rw [if_neg (by norm_num)]
      have e3 : Ideal.div ((Real.log v : ℝ) : EReal) ((Real.log 2 : ℝ) : EReal) = ((Real.log v * (Real.log 2)⁻¹ : ℝ) : EReal) := by
        unfold Ideal.div
        rw [if_neg (by exact_mod_cast hlog.ne'), ← EReal.coe_inv, ← EReal.coe_mul]
      rw [e1, e2, e3]
      show (((⌊Real.log v * (Real.log 2)⁻¹⌋ : ℤ) : ℝ) : EReal) + 1 = _
      rw [hfl]
      rw [show (1 : EReal) = ((1:ℝ) : EReal) from rfl, ← EReal.coe_add]
      congr 1; push_cast; ring
    have hp : ∀ z : ℤ, Ideal.exp2 (((z : ℝ)) : EReal) = (((2:ℝ) ^ z : ℝ) : EReal) := fun z => by
      show ((Real.rpow 2 (z : ℝ) : ℝ) : EReal) = _
      congr 1; exact Real.rpow_intCast 2 z
    constructor
    · unfold scaleK scaleR
      rw [hs, thr_eq (by omega), T_pow (by omega) (by omega), hr, hp]
      congr 2; push_cast; ring
    · unfold invK invR
      rw [hi, thr_eq (by omega), T_pow (by omega) (by omega), hr, Ideal.ofBits_zero_f32, zero_sub, ← EReal.coe_neg, ← Int.cast_neg, hp]
      congr 2; omega

end Cert.Wgrad

end
-- ==== Proof.Column.lean ====
/- A column's largest magnitude and the code of a value, in the extended reals. -/
module

public import proofs.«01_k».proof.Proof.Math

@[expose] public section

noncomputable section

namespace Cert.Wgrad

open Idealize.ShloMosaic

/-- A column's largest magnitude. -/
def colAmax (f : Fin 4096 → EReal) : EReal := Finset.univ.fold max ⊥ fun k => max (f k) (-(f k))

/-- The code of a value: scaled, then limited to `[lo, hi]`. -/
def code (lo hi inv v : EReal) : EReal := min hi (max lo (v * inv))

/-- 1/448 as a float32. -/
def cx : EReal := Ideal.ofBits .f32 0x3B124925#32
/-- 1/57344 as a float32. -/
def cy : EReal := Ideal.ofBits .f32 0x37924925#32

/-- The bfloat16 minus infinity, -/
theorem ofBits_ninf_bf16 : Ideal.ofBits .bf16 0xFF80#16 = ⊥ := by simp [Ideal.ofBits, Ideal.ieee]
/-- and the float32 one. -/
theorem ofBits_ninf_f32 : Ideal.ofBits .f32 0xFF800000#32 = ⊥ := by simp [Ideal.ofBits, Ideal.ieee]

/-- A maximum of magnitudes from minus infinity is the column's largest magnitude. -/
theorem fold_colAmax {f g : Fin 4096 → EReal} (h : ∀ k, f k = max (g k) (-(g k))) : Finset.univ.fold max ⊥ f = colAmax g := by
  unfold colAmax; exact Finset.fold_congr fun k _ => h k

end Cert.Wgrad

end
-- ==== Proof.AtI.lean ====
/- What the two kernel bodies leave, at an index, in the extended reals: each column of the codes and scales a function of that
   column of the block. -/
module

public import proofs.«01_k».proof.Proof.BodyI
public import proofs.«01_k».proof.Proof.Column
public import Idealize.ShloMosaic.Lib.Pointwise

@[expose] public section

set_option maxRecDepth 16384

noncomputable section

namespace Cert.Wgrad

open Idealize.ShloMosaic

/-- One step of the search on a vector. -/
def vstep {s : Shape} (v : FVec Ideal s .f32) (k : IVec s 32) (b : BitVec 32) : IVec s 32 :=
  select (cmpf .oge v (bitcastToFloat .f32 (shli (addi k (broadcast s b)) (broadcast s 23#32)))) (addi k (broadcast s b)) k

/-- A step of the search at an index. -/
theorem vstep_at {s : Shape} (v : FVec Ideal s .f32) (k : IVec s 32) (b : BitVec 32) (i : s.Idx) : vstep v k b i = step (v i) (k i) b := rfl

end Cert.Wgrad

namespace Cert.KernelIdeal.Hand

open Cert.KernelIdeal.Gen Cert.Wgrad
open Idealize.ShloMosaic

/-! ## The x block -/

/-- The value the search over an x column runs on. -/
theorem val0_at (x : Vec Ideal S4096x128 .bf16) (j : Fin 128) : k0_pay6 x (ix2 0 j) = colAmax (fun k => x (ix2 k j)) * cx := by
  pointwise [k0_pay6, k0_pay5]
  rw [ofBits_ninf_bf16]; rfl

/-- Region 1's field is the eight steps on its scaling values. -/
theorem pay7_eq (x : Vec Ideal S4096x128 .bf16) :
    k0_pay7 x = vstep (k0_pay6 x) (vstep (k0_pay6 x) (vstep (k0_pay6 x) (broadcast _ 0#32) 128#32) 64#32) 32#32 := by
  unfold k0_pay7; rfl
/-- Region 1's exponent, from its field. -/
theorem pay9_eq (x : Vec Ideal S4096x128 .bf16) (k : IVec S1x128 32) (c : IVec S1x128 1)
    (hc : c = cmpf .oge (k0_pay6 x) (bitcastToFloat .f32 (shli (addi k (broadcast _ 16#32)) (broadcast _ 23#32)))) :
    k0_pay9 (k0_pay6 x) k c 16#32 = vstep (k0_pay6 x) (vstep (k0_pay6 x) (vstep (k0_pay6 x) (vstep (k0_pay6 x) (vstep (k0_pay6 x) k 16#32) 8#32) 4#32) 2#32) 1#32 := by
  subst hc; unfold k0_pay9; rfl

/-- The search over an x column. -/
theorem expo0_at (x : Vec Ideal S4096x128 .bf16) (i : S1x128.Idx) : expo0 x i = expo (k0_pay6 x i) := by
  unfold expo0
  rw [pay9_eq x (k0_pay7 x) (k0_pay8 x) rfl, pay7_eq]
  simp only [vstep_at]
  rfl
/-- Whether region 0's field is 0 or 255, at a column, -/
theorem flat0_at (x : Vec Ideal S4096x128 .bf16) (i : S1x128.Idx) : flat0 x i = flat (k0_pay6 x i) := by
  show IntOp.ori (IntOp.cmpi .eq (expo0 x i) 0#32) (IntOp.cmpi .eq (expo0 x i) 255#32) = _
  rw [expo0_at]; rfl
/-- and its exponent there. -/
theorem ex0_at (x : Vec Ideal S4096x128 .bf16) (i : S1x128.Idx) : k0_pay1 (expo0 x) (flat0 x) k0_pay11 i = ex (k0_pay6 x i) := by
  show Scalar.select (flat0 x i) 0#32 (IntOp.subi (expo0 x i) 126#32) = _
  rw [expo0_at, flat0_at]; rfl

/-- The scale of an x column. -/
theorem scale0_at (x : Vec Ideal S4096x128 .bf16) (j : Fin 128) : scale0 x (ix2 0 j) = scaleK (colAmax (fun k => x (ix2 k j)) * cx) := by
  show thr (IntOp.addi (k0_pay1 (expo0 x) (flat0 x) k0_pay11 (ix2 0 j)) 127#32) = _
  rw [ex0_at, val0_at]; rfl

/-- The code of an x entry. -/
theorem codes0_at (x : Vec Ideal S4096x128 .bf16) (k : Fin 4096) (j : Fin 128) :
    codes0 x (ix2 k j) = code (Ideal.ofBits .bf16 0xC3E0#16) (Ideal.ofBits .bf16 0x43E0#16) (invK (colAmax (fun k => x (ix2 k j)) * cx)) (x (ix2 k j)) := by
  unfold codes0
  pointwise [k0_pay3, k0_pay5]
  rw [ex0_at, val0_at]; rfl

/-- The transposed codes are the codes. -/
theorem codesT0_at (x : Vec Ideal S4096x128 .bf16) (k : Fin 4096) (j : Fin 128) : codesT0 x (ix2 j k) = codes0 x (ix2 k j) := by
  unfold codesT0 codes0
  pointwise [k0_pay4]

/-! ## The dy block -/

/-- The value the search over a dy column runs on. -/
theorem val1_at (y : Vec Ideal S4096x256 .bf16) (j : Fin 256) : k1_pay2 y (ix2 0 j) = colAmax (fun k => y (ix2 k j)) * cy := by
  pointwise [k1_pay2, k1_pay1]
  rw [ofBits_ninf_bf16]; rfl

/-- Region 0's field is the eight steps on its scaling values. -/
theorem pay3_eq (y : Vec Ideal S4096x256 .bf16) :
    k1_pay3 y = vstep (k1_pay2 y) (vstep (k1_pay2 y) (vstep (k1_pay2 y) (broadcast _ 0#32) 128#32) 64#32) 32#32 := by
  unfold k1_pay3; rfl
/-- Region 0's exponent, from its field. -/
theorem pay5_eq (y : Vec Ideal S4096x256 .bf16) (k : IVec S1x256 32) (c : IVec S1x256 1)
    (hc : c = cmpf .oge (k1_pay2 y) (bitcastToFloat .f32 (shli (addi k (broadcast _ 16#32)) (broadcast _ 23#32)))) :
    k1_pay5 (k1_pay2 y) k c 16#32 = vstep (k1_pay2 y) (vstep (k1_pay2 y) (vstep (k1_pay2 y) (vstep (k1_pay2 y) (vstep (k1_pay2 y) k 16#32) 8#32) 4#32) 2#32) 1#32 := by
  subst hc; unfold k1_pay5; rfl

/-- The search over a dy column. -/
theorem expo1_at (y : Vec Ideal S4096x256 .bf16) (i : S1x256.Idx) : expo1 y i = expo (k1_pay2 y i) := by
  unfold expo1
  rw [pay5_eq y (k1_pay3 y) (k1_pay4 y) rfl, pay3_eq]
  simp only [vstep_at]
  rfl
/-- Whether region 1's field is 0 or 255, at a column, -/
theorem flat1_at (y : Vec Ideal S4096x256 .bf16) (i : S1x256.Idx) : flat1 y i = flat (k1_pay2 y i) := by
  show IntOp.ori (IntOp.cmpi .eq (expo1 y i) 0#32) (IntOp.cmpi .eq (expo1 y i) 255#32) = _
  rw [expo1_at]; rfl
/-- and its exponent there. -/
theorem ex1_at (y : Vec Ideal S4096x256 .bf16) (i : S1x256.Idx) : k1_pay8 (expo1 y) (flat1 y) k1_pay7 i = ex (k1_pay2 y i) := by
  show Scalar.select (flat1 y i) 0#32 (IntOp.subi (expo1 y i) 126#32) = _
  rw [expo1_at, flat1_at]; rfl

/-- The scale of a dy column. -/
theorem scale1_at (y : Vec Ideal S4096x256 .bf16) (j : Fin 256) : scale1 y (ix2 0 j) = scaleK (colAmax (fun k => y (ix2 k j)) * cy) := by
  show thr (IntOp.addi (k1_pay8 (expo1 y) (flat1 y) k1_pay7 (ix2 0 j)) 127#32) = _
  rw [ex1_at, val1_at]; rfl

/-- The code of a dy entry. -/
theorem codes1_at (y : Vec Ideal S4096x256 .bf16) (k : Fin 4096) (j : Fin 256) :
    codes1 y (ix2 k j) = code (Ideal.ofBits .bf16 0xC760#16) (Ideal.ofBits .bf16 0x4760#16) (invK (colAmax (fun k => y (ix2 k j)) * cy)) (y (ix2 k j)) := by
  unfold codes1
  pointwise [k1_pay10, k1_pay1]
  rw [ex1_at, val1_at]; rfl

/-- An entry of the gradient block: main_grad's entry and the codes' product over the rows times the two scales. -/
theorem grad1_at (y : Vec Ideal S4096x256 .bf16) (xt : Vec Ideal S1408x4096 .fp8e4m3) (xs : Vec Ideal S1408x1 .f32) (g : Vec Ideal S1408x256 .f32)
    (i : Fin 1408) (j : Fin 256) :
    grad1 y xt xs g (ix2 i j) = g (ix2 i j) + (∑ k : Fin 4096, xt (ix2 i k) * codes1 y (ix2 k j)) * (xs (ix2 i 0) * scale1 y (ix2 0 j)) := by
  unfold grad1 codes1 scale1
  pointwise [k1_pay11]

end Cert.KernelIdeal.Hand

end
-- ==== Proof.ColumnI.lean ====
/- In the extended reals: region 1's outputs inside the array depend on its inputs inside the array, and what each region
   leaves in its output arrays, entry by entry, as a function of the arrays it reads. -/
module

public import proofs.«01_k».proof.Proof.AtI
public import proofs.«01_k».proof.Proof.DataI
public import Idealize.ShloMosaic.Lib.Pipeline.Value

@[expose] public section

set_option maxRecDepth 16384

noncomputable section

namespace Cert.KernelIdeal.Hand

open Cert.KernelIdeal.Gen Cert.Wgrad
open Idealize.ShloMosaic Idealize.ShloMosaic.TcCoe Idealize.SL.Sem
open Idealize.ShloMosaic.Pipeline (Dat)

/-! ## Region 1's blocks inside the array -/

/-- Row `k`, column `j` of the part of the dy block inside the array. -/
def yin (i : grid1.Coords) (k : Fin 4096) (j : Fin (win1_0.xsize i 1)) : (win1_0.xblock i).Idx := fun a => match a with
  | ⟨0, _⟩ => (k : Fin 4096)
  | ⟨1, _⟩ => j
/-- Row `k`, column `j` of the part of the main_grad block inside the array. -/
def gin (i : grid1.Coords) (k : Fin 1408) (j : Fin (win1_0.xsize i 1)) : (win1_3.xblock i).Idx := fun a => match a with
  | ⟨0, _⟩ => (k : Fin 1408)
  | ⟨1, _⟩ => j
/-- The block's column of a column inside the array. -/
def col (i : grid1.Coords) (j : Fin (win1_0.xsize i 1)) : Fin 256 := ⟨j.val, lt_of_lt_of_le j.isLt (win1_0.xsize_le i 1)⟩

/-- The place in the dy block of a place inside the array, -/
theorem xinj_yin (i : grid1.Coords) (k : Fin 4096) (j : Fin (win1_0.xsize i 1)) : win1_0.xinj i (yin i k j) = ix2 k (col i j) := by
  funext a; match a with | ⟨0, _⟩ => rfl | ⟨1, _⟩ => rfl
/-- and in the main_grad block. -/
theorem xinj_gin (i : grid1.Coords) (k : Fin 1408) (j : Fin (win1_0.xsize i 1)) : win1_3.xinj i (gin i k j) = ix2 k (col i j) := by
  funext a; match a with | ⟨0, _⟩ => rfl | ⟨1, _⟩ => rfl
/-- An index of region 1's main_grad-shaped, dy-shaped and scale-shaped blocks, and that every index is one. -/
def zin4 (i : grid1.Coords) (k : Fin 1408) (j : Fin (win1_0.xsize i 1)) : (win1_4.xblock i).Idx := fun a => match a with
  | ⟨0, _⟩ => (k : Fin 1408)
  | ⟨1, _⟩ => j
def zin5 (i : grid1.Coords) (k : Fin 4096) (j : Fin (win1_0.xsize i 1)) : (win1_5.xblock i).Idx := fun a => match a with
  | ⟨0, _⟩ => (k : Fin 4096)
  | ⟨1, _⟩ => j
def zin6 (i : grid1.Coords) (j : Fin (win1_0.xsize i 1)) : (win1_6.xblock i).Idx := fun a => match a with
  | ⟨0, _⟩ => (0 : Fin 1)
  | ⟨1, _⟩ => j

/-- Every index of the gradient block inside the array is such a pair, -/
theorem zin4_ex (i : grid1.Coords) (z : (win1_4.xblock i).Idx) : ∃ k j, z = zin4 i k j :=
  ⟨z 0, z 1, funext fun a => match a with | ⟨0, _⟩ => rfl | ⟨1, _⟩ => rfl⟩
/-- every index of the code block, -/
theorem zin5_ex (i : grid1.Coords) (z : (win1_5.xblock i).Idx) : ∃ k j, z = zin5 i k j :=
  ⟨z 0, z 1, funext fun a => match a with | ⟨0, _⟩ => rfl | ⟨1, _⟩ => rfl⟩
/-- and every index of the scale block such a column. -/
theorem zin6_ex (i : grid1.Coords) (z : (win1_6.xblock i).Idx) : ∃ j, z = zin6 i j :=
  ⟨z 1, funext fun a => match a with
    | ⟨0, _⟩ => Fin.ext (Nat.lt_one_iff.mp (show (z 0).val < 1 from (z 0).isLt))
    | ⟨1, _⟩ => rfl⟩
/-- Every index of a rank-2 array is a pair. -/
theorem ix2_ex {n m : ℕ} (z : (⟨2, ![n, m]⟩ : Shape).Idx) : ∃ (k : Fin n) (j : Fin m), z = ix2 k j := ⟨z 0, z 1, eq_ix2 z⟩
/-- Every index of a one-row array is a column. -/
theorem ix2_ex1 {m : ℕ} (z : (⟨2, ![1, m]⟩ : Shape).Idx) : ∃ j : Fin m, z = ix2 0 j := by
  obtain ⟨k, j, rfl⟩ := ix2_ex z
  exact ⟨j, by rw [Subsingleton.elim k 0]⟩

/-- The place in the gradient block of a place inside the array, -/
theorem xinj4 (i : grid1.Coords) (k : Fin 1408) (j : Fin (win1_0.xsize i 1)) : win1_4.xinj i (zin4 i k j) = ix2 k (col i j) := by
  funext a; match a with | ⟨0, _⟩ => rfl | ⟨1, _⟩ => rfl
/-- in the code block, -/
theorem xinj5 (i : grid1.Coords) (k : Fin 4096) (j : Fin (win1_0.xsize i 1)) : win1_5.xinj i (zin5 i k j) = ix2 k (col i j) := by
  funext a; match a with | ⟨0, _⟩ => rfl | ⟨1, _⟩ => rfl
/-- and in the scale block. -/
theorem xinj6 (i : grid1.Coords) (j : Fin (win1_0.xsize i 1)) : win1_6.xinj i (zin6 i j) = ix2 0 (col i j) := by
  funext a; match a with | ⟨0, _⟩ => rfl | ⟨1, _⟩ => rfl

/-- Blocks equal inside the array have equal columns there. -/
theorem col_eq (i : grid1.Coords) {y y' : Vec Ideal S4096x256 .bf16} (h : win1_0.cut i y = win1_0.cut i y') (j : Fin (win1_0.xsize i 1))
    (k : Fin 4096) : y (ix2 k (col i j)) = y' (ix2 k (col i j)) := by
  rw [← xinj_yin]; exact congrFun h (yin i k j)
/-- Equal columns have equal scales -/
theorem scale1_congr {y y' : Vec Ideal S4096x256 .bf16} (b : Fin 256) (h : ∀ k, y (ix2 k b) = y' (ix2 k b)) :
    scale1 y (ix2 0 b) = scale1 y' (ix2 0 b) := by
  rw [scale1_at, scale1_at, show (fun k => y (ix2 k b)) = fun k => y' (ix2 k b) from funext h]
/-- and equal codes. -/
theorem codes1_congr {y y' : Vec Ideal S4096x256 .bf16} (b : Fin 256) (h : ∀ k, y (ix2 k b) = y' (ix2 k b)) (k : Fin 4096) :
    codes1 y (ix2 k b) = codes1 y' (ix2 k b) := by
  rw [codes1_at, codes1_at, show (fun k => y (ix2 k b)) = fun k => y' (ix2 k b) from funext h, h k]

/-- Region 1's columns inside the array depend on the inputs' columns inside the array only. -/
theorem columnLocal : ColumnLocal (F := Ideal) where
  grad i y y' xt xs g g' hy hg := by
    funext z
    obtain ⟨r, j, rfl⟩ := zin4_ex i z
    show grad1 y xt xs g (win1_4.xinj i (zin4 i r j)) = grad1 y' xt xs g' (win1_4.xinj i (zin4 i r j))
    have e : g (ix2 r (col i j)) = g' (ix2 r (col i j)) := by
      rw [← xinj_gin]; exact congrFun hg (gin i r j)
    rw [xinj4, grad1_at, grad1_at, scale1_congr _ (col_eq i hy j), e]
    simp only [codes1_congr _ (col_eq i hy j)]
  codes i y y' hy := by
    funext z
    obtain ⟨k, j, rfl⟩ := zin5_ex i z
    show codes1 y (win1_5.xinj i (zin5 i k j)) = codes1 y' (win1_5.xinj i (zin5 i k j))
    rw [xinj5]; exact codes1_congr _ (col_eq i hy j) _
  scale i y y' hy := by
    funext z
    obtain ⟨j, rfl⟩ := zin6_ex i z
    show scale1 y (win1_6.xinj i (zin6 i j)) = scale1 y' (win1_6.xinj i (zin6 i j))
    rw [xinj6]; exact scale1_congr _ (col_eq i hy j)

/-! ## The windows' places in their arrays -/

/-- Point `t` of region 0 is at columns `128 t …`. -/
theorem index0 : ∀ t : Fin cfg0.N, win0_0.index t 0 = 0 ∧ win0_0.index t 1 = t.val ∧ t.val < 11 := (by decide +kernel : ∀ t : Fin grid0.N, _)
/-- Point `t` of region 1 is at columns `256 t …`, the last cut to 128. -/
theorem index1 : ∀ t : Fin cfg1.N, win1_0.index t 0 = 0 ∧ win1_0.index t 1 = t.val ∧ win1_0.xsize (grid1.coords t) 1 = (if t.val = 16 then 128 else 256) ∧ t.val < 17 :=
  (by decide +kernel : ∀ t : Fin grid1.N, _)

/-- The array's column of column `j` of region 0's block at point `t`. -/
def acol0 (t : Fin cfg0.N) (j : Fin 128) : Fin 1408 := ⟨t.val * 128 + j.val, by have := (index0 t).2.2; omega⟩
/-- The array's column of a column inside the array of region 1's block at point `t`. -/
def acol1 (t : Fin cfg1.N) (j : Fin (win1_0.xsize (grid1.coords t) 1)) : Fin 4224 := ⟨t.val * 256 + j.val, by
  obtain ⟨-, -, e, h17⟩ := index1 t
  have h := lt_of_lt_of_eq j.isLt e
  split at h <;> omega⟩

/-- The place in the array of an entry of region 0's x block, -/
theorem emb0_0 (t : Fin cfg0.N) (k : Fin 4096) (j : Fin 128) : ((cfg0.win 0).blk t).view.emb (ix2 k j) = ix2 k (acol0 t j) := by
  obtain ⟨e0, e1, -⟩ := index0 t
  funext a; apply Fin.ext
  match a with
  | ⟨0, _⟩ => show win0_0.index t 0 * 4096 + 1 * k.val = k.val; omega
  | ⟨1, _⟩ => show win0_0.index t 1 * 128 + 1 * j.val = t.val * 128 + j.val; omega
/-- of its code block, -/
theorem emb0_1 (t : Fin cfg0.N) (k : Fin 4096) (j : Fin 128) : ((cfg0.win 1).blk t).view.emb (ix2 k j) = ix2 k (acol0 t j) := by
  obtain ⟨e0, e1, -⟩ := index0 t
  funext a; apply Fin.ext
  match a with
  | ⟨0, _⟩ => show win0_0.index t 0 * 4096 + 1 * k.val = k.val; omega
  | ⟨1, _⟩ => show win0_0.index t 1 * 128 + 1 * j.val = t.val * 128 + j.val; omega
/-- of its scale block, -/
theorem emb0_2 (t : Fin cfg0.N) (j : Fin 128) : ((cfg0.win 2).blk t).view.emb (ix2 (0 : Fin 1) j) = ix2 (0 : Fin 1) (acol0 t j) := by
  obtain ⟨e0, e1, -⟩ := index0 t
  funext a; apply Fin.ext
  match a with
  | ⟨0, _⟩ => show win0_0.index t 0 * 1 + 1 * 0 = 0; omega
  | ⟨1, _⟩ => show win0_0.index t 1 * 128 + 1 * j.val = t.val * 128 + j.val; omega
/-- and of its transposed code block. -/
theorem emb0_3 (t : Fin cfg0.N) (k : Fin 4096) (j : Fin 128) : ((cfg0.win 3).blk t).view.emb (ix2 j k) = ix2 (acol0 t j) k := by
  obtain ⟨e0, e1, -⟩ := index0 t
  funext a; apply Fin.ext
  match a with
  | ⟨0, _⟩ => show win0_0.index t 1 * 128 + 1 * j.val = t.val * 128 + j.val; omega
  | ⟨1, _⟩ => show win0_0.index t 0 * 4096 + 1 * k.val = k.val; omega
/-- The place in the array of an entry of region 1's dy block, -/
theorem emb1_0 (t : Fin cfg1.N) (k : Fin 4096) (j : Fin (win1_0.xsize (grid1.coords t) 1)) :
    ((cfg1.win 0).blk t).view.emb (yin (grid1.coords t) k j) = ix2 k (acol1 t j) := by
  obtain ⟨e0, e1, -⟩ := index1 t
  funext a; apply Fin.ext
  match a with
  | ⟨0, _⟩ => show win1_0.index t 0 * 4096 + 1 * k.val = k.val; omega
  | ⟨1, _⟩ => show win1_0.index t 1 * 256 + 1 * j.val = t.val * 256 + j.val; omega
/-- of its main_grad block, -/
theorem emb1_3 (t : Fin cfg1.N) (k : Fin 1408) (j : Fin (win1_0.xsize (grid1.coords t) 1)) :
    ((cfg1.win 3).blk t).view.emb (gin (grid1.coords t) k j) = ix2 k (acol1 t j) := by
  obtain ⟨e0, e1, -⟩ := index1 t
  funext a; apply Fin.ext
  match a with
  | ⟨0, _⟩ => show win1_0.index t 0 * 1408 + 1 * k.val = k.val; omega
  | ⟨1, _⟩ => show win1_0.index t 1 * 256 + 1 * j.val = t.val * 256 + j.val; omega
/-- of its gradient block, -/
theorem emb1_4 (t : Fin cfg1.N) (k : Fin 1408) (j : Fin (win1_0.xsize (grid1.coords t) 1)) :
    ((cfg1.win 4).blk t).view.emb (zin4 (grid1.coords t) k j) = ix2 k (acol1 t j) := by
  obtain ⟨e0, e1, -⟩ := index1 t
  funext a; apply Fin.ext
  match a with
  | ⟨0, _⟩ => show win1_0.index t 0 * 1408 + 1 * k.val = k.val; omega
  | ⟨1, _⟩ => show win1_0.index t 1 * 256 + 1 * j.val = t.val * 256 + j.val; omega
/-- of its code block, -/
theorem emb1_5 (t : Fin cfg1.N) (k : Fin 4096) (j : Fin (win1_0.xsize (grid1.coords t) 1)) :
    ((cfg1.win 5).blk t).view.emb (zin5 (grid1.coords t) k j) = ix2 k (acol1 t j) := by
  obtain ⟨e0, e1, -⟩ := index1 t
  funext a; apply Fin.ext
  match a with
  | ⟨0, _⟩ => show win1_0.index t 0 * 4096 + 1 * k.val = k.val; omega
  | ⟨1, _⟩ => show win1_0.index t 1 * 256 + 1 * j.val = t.val * 256 + j.val; omega
/-- and of its scale block. -/
theorem emb1_6 (t : Fin cfg1.N) (j : Fin (win1_0.xsize (grid1.coords t) 1)) :
    ((cfg1.win 6).blk t).view.emb (zin6 (grid1.coords t) j) = ix2 (0 : Fin 1) (acol1 t j) := by
  obtain ⟨e0, e1, -⟩ := index1 t
  funext a; apply Fin.ext
  match a with
  | ⟨0, _⟩ => show win1_0.index t 0 * 1 + 1 * 0 = 0; omega
  | ⟨1, _⟩ => show win1_0.index t 1 * 256 + 1 * j.val = t.val * 256 + j.val; omega

/-! ## What each region reads -/

variable (V : Dev nD → Valuation τ sig (Elt Ideal))

/-- The x array region 0 reads, the dy, transposed code, scale and main_grad arrays region 1 reads. -/
abbrev inX (c : Dev nD) : Vec Ideal S4096x1408 .bf16 := V c main_v0
abbrev inY (c : Dev nD) : Vec Ideal S4096x4224 .bf16 := V c main_v1
abbrev inXT (c : Dev nD) : Vec Ideal S1408x4096 .fp8e4m3 := V c main_v2_2
abbrev inXS (c : Dev nD) : Vec Ideal S1408x1 .f32 := V c main_v3
abbrev inG (c : Dev nD) : Vec Ideal S1408x4224 .f32 := V c main_arg2

/-- An entry of the x block is the array's, -/
theorem xblk_at (c : Dev nD) (t : Fin cfg0.N) (k : Fin 4096) (j : Fin 128) : xblk V c t (ix2 k j) = inX V c (ix2 k (acol0 t j)) := by
  show V c main_v0 (((cfg0.win 0).blk t).view.emb (ix2 k j)) = _
  rw [emb0_0]
/-- an entry of the dy block inside the array, -/
theorem dyblk_at (c : Dev nD) (t : Fin cfg1.N) (k : Fin 4096) (j : Fin (win1_0.xsize (grid1.coords t) 1)) :
    dyblk V c t (ix2 k (col _ j)) = inY V c (ix2 k (acol1 t j)) := by
  rw [← xinj_yin, dyblk]
  refine ((cfg1.win 0).fill_xinj _ _ _ _).trans ?_
  show V c main_v1 (((cfg1.win 0).blk t).view.emb (yin (grid1.coords t) k j)) = _
  rw [emb1_0]
/-- and of the main_grad block. -/
theorem mgblk_at (c : Dev nD) (t : Fin cfg1.N) (k : Fin 1408) (j : Fin (win1_0.xsize (grid1.coords t) 1)) :
    mgblk V c t (ix2 k (col _ j)) = inG V c (ix2 k (acol1 t j)) := by
  rw [← xinj_gin, mgblk]
  refine ((cfg1.win 3).fill_xinj _ _ _ _).trans ?_
  show V c main_arg2 (((cfg1.win 3).blk t).view.emb (gin (grid1.coords t) k j)) = _
  rw [emb1_3]
/-- The transposed codes are one block, -/
theorem index1_1 : ∀ t : Fin cfg1.N, win1_1.index t 0 = 0 ∧ win1_1.index t 1 = 0 := (by decide +kernel : ∀ t : Fin grid1.N, _)
/-- and so are the x scales, -/
theorem index1_2 : ∀ t : Fin cfg1.N, win1_2.index t 0 = 0 ∧ win1_2.index t 1 = 0 := (by decide +kernel : ∀ t : Fin grid1.N, _)
/-- read whole at every point, -/
theorem xtblk_eq (c : Dev nD) (t : Fin cfg1.N) : xtblk V c t = inXT V c := by
  funext j
  show V c main_v2_2 (((cfg1.win 1).blk t).view.emb j) = V c main_v2_2 j
  have e : ((cfg1.win 1).blk t).view.emb j = j := by
    obtain ⟨e0, e1⟩ := index1_1 t
    funext a; apply Fin.ext
    match a with
    | ⟨0, _⟩ => show win1_1.index t 0 * 1408 + 1 * (j 0).val = (j 0).val; omega
    | ⟨1, _⟩ => show win1_1.index t 1 * 4096 + 1 * (j 1).val = (j 1).val; omega
  rw [e]
/-- both of them. -/
theorem xsblk_eq (c : Dev nD) (t : Fin cfg1.N) : xsblk V c t = inXS V c := by
  funext j
  show V c main_v3 (((cfg1.win 2).blk t).view.emb j) = V c main_v3 j
  have e : ((cfg1.win 2).blk t).view.emb j = j := by
    obtain ⟨e0, e1⟩ := index1_2 t
    funext a; apply Fin.ext
    match a with
    | ⟨0, _⟩ => show win1_2.index t 0 * 1408 + 1 * (j 0).val = (j 0).val; omega
    | ⟨1, _⟩ => show win1_2.index t 1 * 1 + 1 * (j 1).val = (j 1).val; omega
  rw [e]

/-! ## What each region leaves -/

/-- The scaling value of a column of a 4096-row array. -/
def vcol {n : ℕ} (c : EReal) (X : (⟨2, ![4096, n]⟩ : Shape).Idx → EReal) (j : Fin n) : EReal := colAmax (fun k => X (ix2 k j)) * c

/-- The x codes' limits. -/
def lox : EReal := Ideal.ofBits .bf16 0xC3E0#16
def hix : EReal := Ideal.ofBits .bf16 0x43E0#16
/-- The dy codes' limits. -/
def loy : EReal := Ideal.ofBits .bf16 0xC760#16
def hiy : EReal := Ideal.ofBits .bf16 0x4760#16

def outX (c : Dev nD) : Vec Ideal S4096x1408 .fp8e4m3 := fun i => code lox hix (invK (vcol cx (inX V c) (i 1))) (inX V c i)
def outXS (c : Dev nD) : Vec Ideal S1x1408 .f32 := fun i => scaleK (vcol cx (inX V c) (i 1))
def outXT (c : Dev nD) : Vec Ideal S1408x4096 .fp8e4m3 := fun i => outX V c (ix2 (i 1 : Fin 4096) (i 0 : Fin 1408))
def outY (c : Dev nD) : Vec Ideal S4096x4224 .fp8e5m2 := fun i => code loy hiy (invK (vcol cy (inY V c) (i 1))) (inY V c i)
def outYS (c : Dev nD) : Vec Ideal S1x4224 .f32 := fun i => scaleK (vcol cy (inY V c) (i 1))
def outG (c : Dev nD) : Vec Ideal S1408x4224 .f32 := fun i =>
  inG V c i + (∑ k : Fin 4096, inXT V c (ix2 (i 0 : Fin 1408) k) * outY V c (ix2 k (i 1 : Fin 4224))) * (inXS V c (ix2 (i 0 : Fin 1408) 0) * outYS V c (ix2 0 (i 1 : Fin 4224)))

/-- A block column's scaling value is the array column's, in region 0 -/
theorem xvcol (c : Dev nD) (t : Fin cfg0.N) (j : Fin 128) : colAmax (fun k => xblk V c t (ix2 k j)) * cx = vcol cx (inX V c) (acol0 t j) := by
  unfold vcol; simp only [xblk_at]
/-- and in region 1. -/
theorem yvcol (c : Dev nD) (t : Fin cfg1.N) (j : Fin (win1_0.xsize (grid1.coords t) 1)) :
    colAmax (fun k => dyblk V c t (ix2 k (col _ j))) * cy = vcol cy (inY V c) (acol1 t j) := by
  unfold vcol; simp only [dyblk_at]

/-- A block's x codes are the array's, -/
theorem codes0_blk (c : Dev nD) (t : Fin cfg0.N) (k : Fin 4096) (j : Fin 128) : codes0 (xblk V c t) (ix2 k j) = outX V c (ix2 k (acol0 t j)) := by
  rw [codes0_at, xvcol, xblk_at]; rfl
/-- its dy codes, -/
theorem codes1_blk (c : Dev nD) (t : Fin cfg1.N) (k : Fin 4096) (j : Fin (win1_0.xsize (grid1.coords t) 1)) :
    codes1 (dyblk V c t) (ix2 k (col _ j)) = outY V c (ix2 k (acol1 t j)) := by
  rw [codes1_at, yvcol, dyblk_at]; rfl
/-- and its dy scales. -/
theorem scale1_blk (c : Dev nD) (t : Fin cfg1.N) (j : Fin (win1_0.xsize (grid1.coords t) 1)) :
    scale1 (dyblk V c t) (ix2 0 (col _ j)) = outYS V c (ix2 0 (acol1 t j)) := by
  rw [scale1_at, yvcol]; rfl

/-- The point of region 0 an array's column is written at, and the column of its block. -/
def pt0 (j : Fin 1408) : Fin cfg0.N := ⟨j.val / 128, by rw [show cfg0.N = 11 from N_0]; omega⟩
def pc0 (j : Fin 1408) : Fin 128 := ⟨j.val % 128, Nat.mod_lt _ (by decide)⟩
/-- Every column of x is one of its point's block, -/
theorem acol0_pt (j : Fin 1408) : acol0 (pt0 j) (pc0 j) = j := Fin.ext (show j.val / 128 * 128 + j.val % 128 = j.val by omega)
/-- The point of region 1 an array's column is written at, and the column of its block. -/
def pt1 (j : Fin 4224) : Fin cfg1.N := ⟨j.val / 256, by rw [show cfg1.N = 17 from N_1]; omega⟩
def pc1 (j : Fin 4224) : Fin (win1_0.xsize (grid1.coords (pt1 j)) 1) := ⟨j.val % 256, by
  rw [(index1 (pt1 j)).2.2.1]
  show _ < if j.val / 256 = 16 then 128 else 256
  split <;> omega⟩
/-- and every column of dy. -/
theorem acol1_pt (j : Fin 4224) : acol1 (pt1 j) (pc1 j) = j := Fin.ext (show j.val / 256 * 256 + j.val % 256 = j.val by omega)

/-- Region 0's codes, -/
theorem arr0_1 (c : Dev nD) : (dat0 V c).arrAt 1 cfg0.N = outX V c :=
  (dat0 V c).arrAt_eq_of_cover 1 (outX V c) (fun t _ => by
    show (cfg0.win 1).cut (grid0.coords t) ((dat0 V c).after 1 t) = _
    rw [after0_1]; funext z
    obtain ⟨k, j, rfl⟩ : ∃ (k : Fin 4096) (j : Fin 128), z = ix2 k j := ix2_ex z
    show codes0 (xblk V c t) (ix2 k j) = outX V c (((cfg0.win 1).blk t).view.emb (ix2 k j))
    rw [emb0_1, codes0_blk]) fun i => by
      obtain ⟨k, j, rfl⟩ : ∃ (k : Fin 4096) (j : Fin 1408), i = ix2 k j := ix2_ex i
      refine ⟨pt0 j, flush0_1 _, ?_⟩
      have h := ((cfg0.win 1).blk (pt0 j)).view.emb_mem_set (ix2 k (pc0 j))
      rw [emb0_1, acol0_pt] at h
      exact h
/-- its scales, -/
theorem arr0_2 (c : Dev nD) : (dat0 V c).arrAt 2 cfg0.N = outXS V c :=
  (dat0 V c).arrAt_eq_of_cover 2 (outXS V c) (fun t _ => by
    show (cfg0.win 2).cut (grid0.coords t) ((dat0 V c).after 2 t) = _
    rw [after0_2]; funext z
    obtain ⟨j, rfl⟩ : ∃ j : Fin 128, z = ix2 (0 : Fin 1) j := ix2_ex1 z
    show scale0 (xblk V c t) (ix2 (0 : Fin 1) j) = outXS V c (((cfg0.win 2).blk t).view.emb (ix2 (0 : Fin 1) j))
    rw [emb0_2, scale0_at, xvcol]; rfl) fun i => by
      obtain ⟨j, rfl⟩ : ∃ j : Fin 1408, i = ix2 (0 : Fin 1) j := ix2_ex1 i
      refine ⟨pt0 j, flush0_2 _, ?_⟩
      have h := ((cfg0.win 2).blk (pt0 j)).view.emb_mem_set (ix2 (0 : Fin 1) (pc0 j))
      rw [emb0_2, acol0_pt] at h
      exact h
/-- and its codes transposed. -/
theorem arr0_3 (c : Dev nD) : (dat0 V c).arrAt 3 cfg0.N = outXT V c :=
  (dat0 V c).arrAt_eq_of_cover 3 (outXT V c) (fun t _ => by
    show (cfg0.win 3).cut (grid0.coords t) ((dat0 V c).after 3 t) = _
    rw [after0_3]; funext z
    obtain ⟨j, k, rfl⟩ : ∃ (j : Fin 128) (k : Fin 4096), z = ix2 j k := ix2_ex z
    show codesT0 (xblk V c t) (ix2 j k) = outXT V c (((cfg0.win 3).blk t).view.emb (ix2 j k))
    rw [emb0_3, codesT0_at, codes0_blk]; rfl) fun i => by
      obtain ⟨j, k, rfl⟩ : ∃ (j : Fin 1408) (k : Fin 4096), i = ix2 j k := ix2_ex i
      refine ⟨pt0 j, flush0_3 _, ?_⟩
      have h := ((cfg0.win 3).blk (pt0 j)).view.emb_mem_set (ix2 (pc0 j) k)
      rw [emb0_3, acol0_pt] at h
      exact h

/-- Region 1's gradient, -/
theorem arr1_4 (c : Dev nD) : (dat1 V c).arrAt 4 cfg1.N = outG V c :=
  (dat1 V c).arrAt_eq_of_cover 4 (outG V c) (fun t _ => by
    show (cfg1.win 4).cut (grid1.coords t) ((dat1 V c).after 4 t) = _
    rw [after1_4]; funext z
    obtain ⟨k, j, rfl⟩ := zin4_ex (grid1.coords t) z
    show grad1 (dyblk V c t) (xtblk V c t) (xsblk V c t) (mgblk V c t) (win1_4.xinj (grid1.coords t) (zin4 (grid1.coords t) k j)) = outG V c (((cfg1.win 4).blk t).view.emb (zin4 (grid1.coords t) k j))
    rw [emb1_4, xinj4, grad1_at, mgblk_at, xtblk_eq, xsblk_eq, scale1_blk]
    simp only [codes1_blk]
    rfl) fun i => by
      obtain ⟨k, j, rfl⟩ : ∃ (k : Fin 1408) (j : Fin 4224), i = ix2 k j := ix2_ex i
      refine ⟨pt1 j, flush1_4 _, ?_⟩
      have h := ((cfg1.win 4).blk (pt1 j)).view.emb_mem_set (zin4 _ k (pc1 j))
      rw [emb1_4, acol1_pt] at h
      exact h
/-- its codes, -/
theorem arr1_5 (c : Dev nD) : (dat1 V c).arrAt 5 cfg1.N = outY V c :=
  (dat1 V c).arrAt_eq_of_cover 5 (outY V c) (fun t _ => by
    show (cfg1.win 5).cut (grid1.coords t) ((dat1 V c).after 5 t) = _
    rw [after1_5]; funext z
    obtain ⟨k, j, rfl⟩ := zin5_ex (grid1.coords t) z
    show codes1 (dyblk V c t) (win1_5.xinj (grid1.coords t) (zin5 (grid1.coords t) k j)) = outY V c (((cfg1.win 5).blk t).view.emb (zin5 (grid1.coords t) k j))
    rw [emb1_5, xinj5, codes1_blk]) fun i => by
      obtain ⟨k, j, rfl⟩ : ∃ (k : Fin 4096) (j : Fin 4224), i = ix2 k j := ix2_ex i
      refine ⟨pt1 j, flush1_5 _, ?_⟩
      have h := ((cfg1.win 5).blk (pt1 j)).view.emb_mem_set (zin5 _ k (pc1 j))
      rw [emb1_5, acol1_pt] at h
      exact h
/-- and its scales. -/
theorem arr1_6 (c : Dev nD) : (dat1 V c).arrAt 6 cfg1.N = outYS V c :=
  (dat1 V c).arrAt_eq_of_cover 6 (outYS V c) (fun t _ => by
    show (cfg1.win 6).cut (grid1.coords t) ((dat1 V c).after 6 t) = _
    rw [after1_6]; funext z
    obtain ⟨j, rfl⟩ := zin6_ex (grid1.coords t) z
    show scale1 (dyblk V c t) (win1_6.xinj (grid1.coords t) (zin6 (grid1.coords t) j)) = outYS V c (((cfg1.win 6).blk t).view.emb (zin6 (grid1.coords t) j))
    rw [emb1_6, xinj6, scale1_blk]) fun i => by
      obtain ⟨j, rfl⟩ : ∃ j : Fin 4224, i = ix2 (0 : Fin 1) j := ix2_ex1 i
      refine ⟨pt1 j, flush1_6 _, ?_⟩
      have h := ((cfg1.win 6).blk (pt1 j)).view.emb_mem_set (zin6 _ (pc1 j))
      rw [emb1_6, acol1_pt] at h
      exact h

end Cert.KernelIdeal.Hand

end
-- ==== Proof.HostI.lean ====
/- What the host's reshapes read and leave: the regions' inputs from the arguments and from each other's outputs, and the program's
   results from the regions' outputs. -/
module

public import proofs.«01_k».proof.Proof.RunI

@[expose] public section

noncomputable section

namespace Cert.KernelIdeal.Hand

open Cert.KernelIdeal.Gen
open Idealize.ShloMosaic Idealize.ShloMosaic.TcCoe Idealize.ShloMosaic.Tactic Idealize.SL.Sem

variable {F : FTy → Type} [FloatOps F] (m : (ℓ : Loc nD τ sig) → Buf (Elt F) ℓ) (b : Bool) (c : Dev nD)

/-- Region 0 reads x as 4096 rows. -/
theorem V1_v0 : V1 m c main_v0 = shapeCast S4096x1408 (m ((c : Thread nD τ).loc main_arg0)) shapeCasts_S4x1024x1408_S4096x1408 := by
  unfold_abbrev_sides
  after_results
  rfl
/-- Region 1 reads dy as 4096 rows, -/
theorem V1_v1 : V1 m c main_v1 = shapeCast S4096x4224 (m ((c : Thread nD τ).loc main_arg1)) shapeCasts_S4x1024x4224_S4096x4224 := by
  unfold_abbrev_sides
  after_results
  rfl
/-- as found when region 1 is entered, -/
theorem W3_v1 : W3 m c main_v1 = shapeCast S4096x4224 (m ((c : Thread nD τ).loc main_arg1)) shapeCasts_S4x1024x4224_S4096x4224 :=
  (W3_of m c main_v1 (by decide)).trans ((W2_of m c main_v1 (by decide)).trans (V1_v1 m c))
/-- main_grad as launched, -/
theorem W3_arg2 : W3 m c main_arg2 = m ((c : Thread nD τ).loc main_arg2) :=
  (W3_of m c main_arg2 (by decide)).trans ((W2_of m c main_arg2 (by decide)).trans (V1_of m c main_arg2 (by decide)))
/-- region 0's transposed codes, -/
theorem W3_v2_2 : W3 m c main_v2_2 = (dat0 (V1 m) c).arrAt 3 cfg0.N :=
  (W3_of m c main_v2_2 (by decide)).trans (W2_v2_2 m c)
/-- and its scales as a column. -/
theorem W3_v3 : W3 m c main_v3 = shapeCast S1408x1 (W2 m c main_v2_1) shapeCasts_S1x1408_S1408x1 := by
  unfold W3 hostOps1
  generalize W2 m c = V
  after_results
  rfl

/-- The x codes, in the argument's shape, -/
theorem W5_v5 (A) : W5 m b c A main_v5 = shapeCast S4x1024x1408 (W4 m b c A main_v2_0) shapeCasts_S4096x1408_S4x1024x1408 := by
  unfold W5 hostOps2
  generalize W4 m b c A = V
  after_results
  rfl
/-- the x scales as a vector, -/
theorem W5_v6 (A) : W5 m b c A main_v6 = shapeCast S1408 (W4 m b c A main_v2_1) shapeCasts_S1x1408_S1408 := by
  unfold W5 hostOps2
  generalize W4 m b c A = V
  after_results
  rfl
/-- the dy codes, in the argument's shape, -/
theorem W5_v7 (A) : W5 m b c A main_v7 = shapeCast S4x1024x4224 (W4 m b c A main_v4_1) shapeCasts_S4096x4224_S4x1024x4224 := by
  unfold W5 hostOps2
  generalize W4 m b c A = V
  after_results
  rfl
/-- the dy scales as a vector. -/
theorem W5_v8 (A) : W5 m b c A main_v8 = shapeCast S4224 (W4 m b c A main_v4_2) shapeCasts_S1x4224_S4224 := by
  unfold W5 hostOps2
  generalize W4 m b c A = V
  after_results
  rfl

/-- What is read where nothing wrote. -/
theorem W4_v2_0 (A) : W4 m b c A main_v2_0 = (dat0 (V1 m) c).arrAt 1 cfg0.N :=
  (W4_of m b c A main_v2_0 (by decide)).trans ((W3_of m c main_v2_0 (by decide)).trans (W2_v2_0 m c))
/-- The x scales when the last reshapes run. -/
theorem W4_v2_1 (A) : W4 m b c A main_v2_1 = (dat0 (V1 m) c).arrAt 2 cfg0.N :=
  (W4_of m b c A main_v2_1 (by decide)).trans ((W3_of m c main_v2_1 (by decide)).trans (W2_v2_1 m c))
/-- The gradient at the end. -/
theorem W5_v4_0 (A) : W5 m b c A main_v4_0 = out1 m b c A 4 :=
  (W5_of m b c A main_v4_0 (by decide)).trans (W4_v4_0 m b c A)

end Cert.KernelIdeal.Hand

end
-- ==== Proof.RefRun.lean ====
/- The reference's run with each result named as one function of the arguments. -/
module
public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S1408x4224.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S4x1024x1408.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S1408.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4x1024x4224.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4224.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_v0_4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      post7 m r h c,
      kept_main_arg0 m r h c,
      kept_main_arg1 m r h c,
      kept_main_arg2 m r h c⟩)
    (run_main m ρ)

/-! ## Closed form at one grid point: every window's block is its array -/

/-- The rectangle starts at zero. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x1024x1408.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 1024 + 1 * (j 1).val = (j 1).val; omega
  | ⟨2, _⟩ => show win0_0.index t (2 : Fin 3) * 1408 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The rectangle starts at zero. -/
theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S4x1024x4224.Idx) : ((cfg0.win 1).blk t).view.emb j = j := by
  obtain ⟨e0, e1, e2⟩ := idx_zero1 t
  funext a; apply Fin.ext
  match a with
  | ⟨0, _⟩ => show win0_1.index t (0 : Fin 3) * 4 + 1 * (j 0).val = (j 0).val; omega
  | ⟨1, _⟩ => show win0_1.index t (1 : Fin 3) * 1024 + 1 * (j 1).val = (j 1).val; omega
  | ⟨2, _⟩ => show win0_1.index t (2 : Fin 3) * 4224 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- The rectangle starts at zero. -/
theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1408x4224.Idx) : ((cfg0.win 2).blk t).view.emb j = j := by
  obtain ⟨e0, e1⟩ := idx_zero2 t
  funext a; apply Fin.ext
  match a with
  | ⟨0, _⟩ => show win0_2.index t (0 : Fin 2) * 1408 + 1 * (j 0).val = (j 0).val; omega
  | ⟨1, _⟩ => show win0_2.index t (1 : Fin 2) * 4224 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- The rectangle starts at zero. -/
theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1408x4224.Idx) : ((cfg0.win 3).blk t).view.emb j = j := by
  obtain ⟨e0, e1⟩ := idx_zero3 t
  funext a; apply Fin.ext
  match a with
  | ⟨0, _⟩ => show win0_3.index t (0 : Fin 2) * 1408 + 1 * (j 0).val = (j 0).val; omega
  | ⟨1, _⟩ => show win0_3.index t (1 : Fin 2) * 4224 + 1 * (j 1).val = (j 1).val; omega

/-- The rectangle starts at zero. -/
theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x1024x1408.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 1024 + 1 * (j 1).val = (j 1).val; omega
  | ⟨2, _⟩ => show win0_4.index t (2 : Fin 3) * 1408 + 1 * (j 2).val = (j 2).val; omega

/-- The rectangle starts at zero. -/
theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S1408.Idx) : ((cfg0.win 5).blk t).view.emb j = j := by
  have e0 := idx_zero5 t
  funext a; apply Fin.ext
  match a with
  | ⟨0, _⟩ => show win0_5.index t (0 : Fin 1) * 1408 + 1 * (j 0).val = (j 0).val; omega

/-- The rectangle starts at zero. -/
theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x1024x4224.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 1024 + 1 * (j 1).val = (j 1).val; omega
  | ⟨2, _⟩ => show win0_6.index t (2 : Fin 3) * 4224 + 1 * (j 2).val = (j 2).val; omega

/-- The rectangle starts at zero. -/
theorem hz7 : (![0] : Fin 1 → Nat) = fun _ => 0 := funext fun a => by fin_cases a <;> rfl

/-- Window 7's block index at the one point is zero on every axis. -/
theorem idx_zero7 : ∀ t : Fin cfg0.N, win0_7.index t (0 : Fin 1) = 0 :=
  (by decide +kernel : ∀ t : Fin grid0.N, _)

/-- An index of window 7's block is the same index of its array. -/
theorem emb7 (t : Fin cfg0.N) (j : S4224.Idx) : ((cfg0.win 7).blk t).view.emb j = j := by
  have e0 := idx_zero7 t
  funext a; apply Fin.ext
  match a with
  | ⟨0, _⟩ => show win0_7.index t (0 : Fin 1) * 4224 + 1 * (j 0).val = (j 0).val; omega

/-! ### Output window 3: the array after the run -/

/-- What the window's array ends holding: `out0_3` applied to the argument arrays in place of the input blocks (a value that the
    frame states apart, `kK_payN a…`, keeps its loads inside its own definition). -/
abbrev G3 (a0 : Vec F S4x1024x1408 .bf16) (a1 : Vec F S4x1024x4224 .bf16) (a2 : Vec F S1408x4224 .f32) : Vec F S1408x4224 .f32 :=
  k0_pay12 (k0_pay13 a0 a1 a2) (k0_pay14 a0 a1 a2) (k0_pay15 a0 a1 a2) (k0_pay16 a0 a1 a2) a2

/-- A load of the whole of a block reads the block, and the one store through the whole rectangle leaves its payload. -/
theorem out3_eq (a0 : Vec F S4x1024x1408 .bf16) (a1 : Vec F S4x1024x4224 .bf16) (a2 : Vec F S1408x4224 .f32) : out0_3 (F := F) a0 a1 a2 = G3 a0 a1 a2 := by
  unfold out0_3
  rw [View.canon_unit_zero hz3, View.ld_unit_zero (S := S1408x4224) hz2 _ a2]

/-- Cutting the point's block out of `X` and reading `X` through the block's view give the same. -/
theorem cut3_eq (t : Fin cfg0.N) (X : Vec F S1408x4224 .f32) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S1408x4224.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S4x1024x1408 .bf16) (a1 : Vec F S4x1024x4224 .bf16) (a2 : Vec F S1408x4224 .f32) : Vec F S4x1024x1408 .fp8e4m3 :=
  k0_pay1 (k0_pay14 a0 a1 a2)

/-- The one store through the whole rectangle leaves its payload. -/
theorem out4_eq (a0 : Vec F S4x1024x1408 .bf16) (a1 : Vec F S4x1024x4224 .bf16) (a2 : Vec F S1408x4224 .f32) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S4x1024x1408 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S4x1024x1408.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S4x1024x1408 .bf16) (a1 : Vec F S4x1024x4224 .bf16) (a2 : Vec F S1408x4224 .f32) : Vec F S1408 .f32 :=
  k0_pay13 a0 a1 a2

/-- The one store through the whole rectangle leaves its payload. -/
theorem out5_eq (a0 : Vec F S4x1024x1408 .bf16) (a1 : Vec F S4x1024x4224 .bf16) (a2 : Vec F S1408x4224 .f32) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S1408 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S1408.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S4x1024x1408 .bf16) (a1 : Vec F S4x1024x4224 .bf16) (a2 : Vec F S1408x4224 .f32) : Vec F S4x1024x4224 .fp8e5m2 :=
  k0_pay2 (k0_pay11 (k0_pay15 a0 a1 a2) (k0_pay16 a0 a1 a2))

/-- The one store through the whole rectangle leaves its payload. -/
theorem out6_eq (a0 : Vec F S4x1024x1408 .bf16) (a1 : Vec F S4x1024x4224 .bf16) (a2 : Vec F S1408x4224 .f32) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S4x1024x4224 .fp8e5m2) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S4x1024x4224.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks (a value that the
    frame states apart, `kK_payN a…`, keeps its loads inside its own definition). -/
abbrev G7 (a0 : Vec F S4x1024x1408 .bf16) (a1 : Vec F S4x1024x4224 .bf16) (a2 : Vec F S1408x4224 .f32) : Vec F S4224 .f32 :=
  k0_pay10 (k0_pay16 a0 a1 a2)

/-- The one store through the whole rectangle leaves its payload. -/
theorem out7_eq (a0 : Vec F S4x1024x1408 .bf16) (a1 : Vec F S4x1024x4224 .bf16) (a2 : Vec F S1408x4224 .f32) : out0_7 (F := F) a0 a1 a2 = G7 a0 a1 a2 := by
  unfold out0_7
  rw [View.canon_unit_zero hz7]

/-- Cutting the point's block out of `X` and reading `X` through the block's view give the same. -/
theorem cut7_eq (t : Fin cfg0.N) (X : Vec F S4224 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S4224.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      (post7 m r h c).trans (final7 m c),
      kept_main_arg0 m r h c,
      kept_main_arg1 m r h c,
      kept_main_arg2 m r h c⟩)
    (run_main m ρ)

end Cert.ReferenceIdeal.Hand

end
-- ==== Proof.RefAt.lean ====
/- The reference's results at an index, in the extended reals, over its inputs as 4096-row arrays. -/
module

public import proofs.«01_k».proof.Proof.RefRun
public import proofs.«01_k».proof.Proof.Column
public import Idealize.ShloMosaic.Lib.Pointwise

@[expose] public section

noncomputable section

namespace Cert.ReferenceIdeal.Hand

open Cert.ReferenceIdeal Cert.ReferenceIdeal.Gen Cert.Wgrad
open Idealize.ShloMosaic

variable {s : Shape}

/-- An entry of a vector of scaling values, -/
theorem mulV_at (a : FVec Ideal s .f32) (b : BitVec 32) (j : s.Idx) : mulf a (broadcast s (Scalar.ofBits .f32 b)) j = a j * Ideal.ofBits .f32 b := rfl
/-- of powers of two, -/
theorem exp2V_at (e : FVec Ideal s .f32) (j : s.Idx) : exp2 e j = Ideal.exp2 (e j) := rfl
/-- of exponents. -/
def expV (a v : FVec Ideal s .f32) : FVec Ideal s .f32 :=
  select (cmpf .oeq a (broadcast s (Scalar.ofBits .f32 0x00000000#32))) (broadcast s (Scalar.ofBits .f32 0x00000000#32))
    (select (ori (cmpf .olt v (broadcast s (Scalar.ofBits .f32 0x00800000#32))) (cmpf .oeq v (broadcast s (Scalar.ofBits .f32 0x7F800000#32)))) (broadcast s (Scalar.ofBits .f32 0x00000000#32))
      (addf (floor (divf (log v) (log (broadcast s (Scalar.ofBits .f32 0x40000000#32))))) (broadcast s (Scalar.ofBits .f32 0x3F800000#32))))
/-- Such an exponent at an entry. -/
theorem expV_at (a v : FVec Ideal s .f32) (i : s.Idx) : expV a v i = exR (a i) (v i) := by
  unfold expV exR; rfl

/-- The x codes, from the exponents, -/
def codesX (X : FVec Ideal S4096x1408 .f32) (e : FVec Ideal S1408 .f32) : FVec Ideal S4096x1408 .fp8e4m3 :=
  truncf .fp8e4m3 (minimumf (broadcast S4096x1408 (Scalar.ofBits .f32 0x43E00000#32)) (maximumf (broadcast S4096x1408 (Scalar.ofBits .f32 0xC3E00000#32))
    (mulf X (broadcastTo S4096x1408 (shapeCast S1x1408 (exp2 (subf (broadcast S1408 (Scalar.ofBits .f32 0x00000000#32)) e)) shapeCasts_S1408_S1x1408)
      broadcasts_S1x1408_S4096x1408)))) bitsLt_fp8e4m3_f32
/-- at an entry. -/
theorem codesX_at (X : FVec Ideal S4096x1408 .f32) (e : FVec Ideal S1408 .f32) (k : Fin 4096) (j : Fin 1408) : codesX X e (ix2 k j)
      = min (Ideal.ofBits .f32 0x43E00000#32) (max (Ideal.ofBits .f32 0xC3E00000#32) (X (ix2 k j) * Ideal.exp2 (0 - e (ix1 j)))) := by
  pointwise [codesX]
  rfl
/-- The dy codes, from the exponents, -/
def codesY (X : FVec Ideal S4096x4224 .f32) (e : FVec Ideal S4224 .f32) : FVec Ideal S4096x4224 .fp8e5m2 :=
  truncf .fp8e5m2 (minimumf (broadcast S4096x4224 (Scalar.ofBits .f32 0x47600000#32)) (maximumf (broadcast S4096x4224 (Scalar.ofBits .f32 0xC7600000#32))
    (mulf X (broadcastTo S4096x4224 (shapeCast S1x4224 (exp2 (subf (broadcast S4224 (Scalar.ofBits .f32 0x00000000#32)) e)) shapeCasts_S4224_S1x4224)
      broadcasts_S1x4224_S4096x4224)))) bitsLt_fp8e5m2_f32
/-- at an entry. -/
theorem codesY_at (X : FVec Ideal S4096x4224 .f32) (e : FVec Ideal S4224 .f32) (k : Fin 4096) (j : Fin 4224) : codesY X e (ix2 k j)
      = min (Ideal.ofBits .f32 0x47600000#32) (max (Ideal.ofBits .f32 0xC7600000#32) (X (ix2 k j) * Ideal.exp2 (0 - e (ix1 j)))) := by
  pointwise [codesY]
  rfl
/-- A code from its exponent. -/
theorem code_exR (lo hi a v x : EReal) : min hi (max lo (x * Ideal.exp2 (0 - exR a v))) = code lo hi (invR a v) x := by
  rw [code, invR, Ideal.ofBits_zero_f32]

/-- The largest magnitudes of the x columns, -/
def amaxX (X : FVec Ideal S4096x1408 .f32) : FVec Ideal S1408 .f32 :=
  multiReduction .maximumf [0] S1408 (absf X) 0xFF800000#32 reduces_S4096x1408_S1408 (.inl rfl) rfl
/-- at a column, -/
theorem amaxX_at (X : FVec Ideal S4096x1408 .f32) (j : Fin 1408) : amaxX X (ix1 j) = colAmax (fun k => X (ix2 k j)) := by
  pointwise [amaxX]
  rw [ofBits_ninf_f32]; exact fold_colAmax fun _ => rfl
/-- and their exponents. -/
theorem exp0_at (x : Vec Ideal S4x1024x1408 .bf16) (j : Fin 1408) :
    k0_pay4 x (ix1 j) = exR (colAmax (fun k => k0_pay3 x (ix2 k j))) (colAmax (fun k => k0_pay3 x (ix2 k j)) * cx) := by
  have h : k0_pay4 x = expV (amaxX (k0_pay3 x)) (mulf (amaxX (k0_pay3 x)) (broadcast S1408 (Scalar.ofBits .f32 0x3B124925#32))) := rfl
  rw [h]
  generalize k0_pay3 x = X
  rw [expV_at, mulV_at, amaxX_at, cx]
/-- The scale of an x column. -/
theorem scale0_at (x : Vec Ideal S4x1024x1408 .bf16) (j : Fin 1408) :
    k0_pay5 x (ix1 j) = scaleR (colAmax (fun k => k0_pay3 x (ix2 k j))) (colAmax (fun k => k0_pay3 x (ix2 k j)) * cx) := by
  have h : k0_pay5 x = exp2 (k0_pay4 x) := rfl
  rw [h, exp2V_at, exp0_at, scaleR]
/-- An x code. -/
theorem codes0_at (x : Vec Ideal S4x1024x1408 .bf16) (k : Fin 4096) (j : Fin 1408) :
    k0_pay6 x (ix2 k j) = code (Ideal.ofBits .f32 0xC3E00000#32) (Ideal.ofBits .f32 0x43E00000#32)
      (invR (colAmax (fun k => k0_pay3 x (ix2 k j))) (colAmax (fun k => k0_pay3 x (ix2 k j)) * cx)) (k0_pay3 x (ix2 k j)) := by
  have h : k0_pay6 x = codesX (k0_pay3 x) (k0_pay4 x) := rfl
  rw [h, codesX_at, exp0_at, code_exR]

/-- The largest magnitudes of the dy columns, -/
def amaxY (X : FVec Ideal S4096x4224 .f32) : FVec Ideal S4224 .f32 :=
  multiReduction .maximumf [0] S4224 (absf X) 0xFF800000#32 reduces_S4096x4224_S4224 (.inl rfl) rfl
/-- at a column, -/
theorem amaxY_at (X : FVec Ideal S4096x4224 .f32) (j : Fin 4224) : amaxY X (ix1 j) = colAmax (fun k => X (ix2 k j)) := by
  pointwise [amaxY]
  rw [ofBits_ninf_f32]; exact fold_colAmax fun _ => rfl
/-- and their exponents. -/
theorem exp1_at (y : Vec Ideal S4x1024x4224 .bf16) (j : Fin 4224) :
    k0_pay9 (k0_pay8 y) (ix1 j) = exR (colAmax (fun k => k0_pay7 y (ix2 k j))) (colAmax (fun k => k0_pay7 y (ix2 k j)) * cy) := by
  have ha : k0_pay8 y = absf (k0_pay7 y) := rfl
  have h : ∀ X, k0_pay9 (F := Ideal) (absf X) = expV (amaxY X) (mulf (amaxY X) (broadcast S4224 (Scalar.ofBits .f32 0x37924925#32))) := fun _ => rfl
  rw [ha, h]
  generalize k0_pay7 y = X
  rw [expV_at, mulV_at, amaxY_at, cy]
/-- The scale of a dy column. -/
theorem scale1_at (y : Vec Ideal S4x1024x4224 .bf16) (j : Fin 4224) :
    k0_pay10 (k0_pay8 y) (ix1 j) = scaleR (colAmax (fun k => k0_pay7 y (ix2 k j))) (colAmax (fun k => k0_pay7 y (ix2 k j)) * cy) := by
  have h : ∀ a, k0_pay10 (F := Ideal) a = exp2 (k0_pay9 a) := fun _ => rfl
  rw [h, exp2V_at, exp1_at, scaleR]
/-- A dy code. -/
theorem codes1_at (y : Vec Ideal S4x1024x4224 .bf16) (k : Fin 4096) (j : Fin 4224) :
    k0_pay11 (k0_pay7 y) (k0_pay8 y) (ix2 k j) = code (Ideal.ofBits .f32 0xC7600000#32) (Ideal.ofBits .f32 0x47600000#32)
      (invR (colAmax (fun k => k0_pay7 y (ix2 k j))) (colAmax (fun k => k0_pay7 y (ix2 k j)) * cy)) (k0_pay7 y (ix2 k j)) := by
  have h : ∀ X a, k0_pay11 (F := Ideal) X a = codesY X (k0_pay9 a) := fun _ _ => rfl
  rw [h, codesY_at, exp1_at, code_exR]

/-- An entry of the gradient. -/
theorem grad_at (xs : FVec Ideal S1408 .f32) (xc : FVec Ideal S4096x1408 .fp8e4m3) (y a : FVec Ideal S4096x4224 .f32)
    (g : Vec Ideal S1408x4224 .f32) (i : Fin 1408) (j : Fin 4224) :
    k0_pay12 xs xc y a g (ix2 i j)
      = g (ix2 i j) + (∑ k : Fin 4096, xc (ix2 k i) * k0_pay11 y a (ix2 k j)) * (xs (ix1 i) * k0_pay10 a (ix1 j)) := by
  pointwise [k0_pay12]

end Cert.ReferenceIdeal.Hand

end
-- ==== Proof.Range.lean ====
/- What the precondition gives: every entry's magnitude at most the largest finite bfloat16 or infinite, hence every column's scaling
   value in the range where the kernel's scale is the reference's. The codes' limits are one number in either format. -/
module

public import proofs.«01_k».proof.Proof.Column
public import proofs.«01_k».proof.Pre_in_format
public import Idealize.ShloMosaic.Lib.ReduceAll

@[expose] public section

noncomputable section

namespace Cert.Wgrad

open Idealize.ShloMosaic

/-- The largest finite bfloat16. -/
def big : EReal := Ideal.ofBits .bf16 0x7F7F#16

/-- It is this real, -/
theorem big_eq : big = ((255 * 2 ^ 120 : ℝ) : EReal) := by
  unfold big; simp [Ideal.ofBits, Ideal.ieee]
/-- the x scaling constant this one -/
theorem cx_eq : cx = ((9586981 / 2 ^ 32 : ℝ) : EReal) := by
  unfold cx; simp [Ideal.ofBits, Ideal.ieee, -EReal.coe_mul, -EReal.coe_pow]; norm_num
/-- and the dy scaling constant this one. -/
theorem cy_eq : cy = ((9586981 / 2 ^ 39 : ℝ) : EReal) := by
  unfold cy; simp [Ideal.ofBits, Ideal.ieee, -EReal.coe_mul, -EReal.coe_pow]; norm_num

/-- A number in bfloat16's range: at most the largest finite one in magnitude, or infinite. -/
def InFormat (a : EReal) : Prop := max a (-a) ≤ big ∨ max a (-a) = ⊤

/-- -448 and 448 in either format, -/
theorem lox_eq : Ideal.ofBits .bf16 0xC3E0#16 = Ideal.ofBits .f32 0xC3E00000#32 := by
  simp [Ideal.ofBits, Ideal.ieee, -EReal.coe_mul, -EReal.coe_pow]; norm_num
/-- the upper one; -/
theorem hix_eq : Ideal.ofBits .bf16 0x43E0#16 = Ideal.ofBits .f32 0x43E00000#32 := by
  simp [Ideal.ofBits, Ideal.ieee, -EReal.coe_mul, -EReal.coe_pow]; norm_num
/-- -57344 and 57344 in either format. -/
theorem loy_eq : Ideal.ofBits .bf16 0xC760#16 = Ideal.ofBits .f32 0xC7600000#32 := by
  simp [Ideal.ofBits, Ideal.ieee, -EReal.coe_mul, -EReal.coe_pow]; norm_num
/-- and the upper one. -/
theorem hiy_eq : Ideal.ofBits .bf16 0x4760#16 = Ideal.ofBits .f32 0x47600000#32 := by
  simp [Ideal.ofBits, Ideal.ieee, -EReal.coe_mul, -EReal.coe_pow]; norm_num

/-- A column's largest magnitude is no more than a bound of its entries' magnitudes, -/
theorem colAmax_le {f : Fin 4096 → EReal} {M : EReal} (h : ∀ k, max (f k) (-(f k)) ≤ M) : colAmax f ≤ M :=
  Finset.fold_max_le M |>.mpr ⟨bot_le, fun k _ => h k⟩
/-- a column with an infinite entry has an infinite one, -/
theorem colAmax_top {f : Fin 4096 → EReal} {k : Fin 4096} (h : max (f k) (-(f k)) = ⊤) : colAmax f = ⊤ :=
  top_le_iff.1 (Finset.le_fold_max ⊤ |>.mpr (.inr ⟨k, Finset.mem_univ _, h.ge⟩))
/-- and it is not negative. -/
theorem colAmax_nonneg (f : Fin 4096 → EReal) : 0 ≤ colAmax f := by
  refine Finset.le_fold_max 0 |>.mpr (.inr ⟨0, Finset.mem_univ _, ?_⟩)
  rcases le_total 0 (f 0) with h | h
  · exact le_max_of_le_left h
  · exact le_max_of_le_right (EReal.neg_nonneg.mpr h)

/-- The kernel's scale of a column of entries in range is the reference's, for a scaling constant `c` below one quarter. -/
theorem col_scale {f : Fin 4096 → EReal} {c : EReal} {r : ℝ} (hc : c = (r : EReal)) (h0 : 0 < r) (h1 : r < 1 / 4)
    (h : ∀ k, InFormat (f k)) :
    scaleK (colAmax f * c) = scaleR (colAmax f) (colAmax f * c) ∧ invK (colAmax f * c) = invR (colAmax f) (colAmax f * c) := by
  by_cases ht : ∃ k, max (f k) (-(f k)) = ⊤
  · obtain ⟨k, hk⟩ := ht
    rw [colAmax_top hk, hc, EReal.top_mul_coe_of_pos h0]
    exact scale_top
  have hle := colAmax_le fun k => (h k).resolve_right fun e => ht ⟨k, e⟩
  have hnn := colAmax_nonneg f
  refine scale_eq (fun hz => by rw [hz, zero_mul]) (mul_nonneg hnn (by rw [hc]; exact_mod_cast h0.le)) ?_
  rw [big_eq] at hle
  generalize colAmax f = a at hle hnn
  induction a using EReal.rec with
  | bot => exact absurd hnn (by simp)
  | top => exact absurd hle (by simp [-EReal.coe_mul])
  | coe a =>
    have ha : a ≤ 255 * 2 ^ 120 := by exact_mod_cast hle
    have ha0 : 0 ≤ a := by exact_mod_cast hnn
    rw [hc, T_pow (by norm_num) (by norm_num), ← EReal.coe_mul, EReal.coe_lt_coe_iff]
    calc a * r ≤ 255 * 2 ^ 120 * r := mul_le_mul_of_nonneg_right ha h0.le
      _ < 255 * 2 ^ 120 * (1 / 4) := by apply mul_lt_mul_of_pos_left h1; norm_num
      _ ≤ 2 ^ (((253 : ℕ) : ℤ) - 127) := by norm_num

/-- An x column's scale, -/
theorem scale_x {f : Fin 4096 → EReal} (h : ∀ k, InFormat (f k)) :
    scaleK (colAmax f * cx) = scaleR (colAmax f) (colAmax f * cx) ∧ invK (colAmax f * cx) = invR (colAmax f) (colAmax f * cx) :=
  col_scale cx_eq (by norm_num) (by norm_num) h
/-- and a dy column's. -/
theorem scale_y {f : Fin 4096 → EReal} (h : ∀ k, InFormat (f k)) :
    scaleK (colAmax f * cy) = scaleR (colAmax f) (colAmax f * cy) ∧ invK (colAmax f * cy) = invR (colAmax f) (colAmax f * cy) :=
  col_scale cy_eq (by norm_num) (by norm_num) h

/-- The precondition of one entry: it is in range. -/
theorem inFormat {a : EReal} (h : IntOp.ori (Ideal.cmp .ole (max a (-a)) (Ideal.ofBits .bf16 0x7F7F#16))
    (Ideal.cmp .oeq (max a (-a)) (Ideal.ofBits .bf16 0x7F80#16)) = 1#1) : InFormat a := by
  have e0 : Ideal.cmp .ole (max a (-a)) (Ideal.ofBits .bf16 0x7F7F#16) = BitVec.ofBool (decide (max a (-a) ≤ big)) := rfl
  have e1 : Ideal.cmp .oeq (max a (-a)) (Ideal.ofBits .bf16 0x7F80#16) = BitVec.ofBool (decide (max a (-a) = Ideal.ofBits .bf16 0x7F80#16)) := rfl
  have e2 : Ideal.ofBits .bf16 0x7F80#16 = ⊤ := by simp [Ideal.ofBits, Ideal.ieee]
  by_contra hn
  obtain ⟨h0, h1⟩ := not_or.1 hn
  rw [e0, e1, decide_eq_false h0, decide_eq_false (by rwa [e2])] at h
  exact absurd h (by decide)

/-- The precondition: every entry of x and of dy is in range. -/
theorem in_format_all [Cert.Pre_in_format.Facts] {x : FVec Ideal Cert.Pre_in_format.S4x1024x1408 .bf16} {y : FVec Ideal Cert.Pre_in_format.S4x1024x4224 .bf16}
    {g : FVec Ideal Cert.Pre_in_format.S1408x4224 .f32} (h : Cert.Pre_in_format.fn x y g = fun _ => 1#1) :
    (∀ i, InFormat (x i)) ∧ ∀ i, InFormat (y i) := by
  have h := congrFun h (fun a => a.elim0)
  unfold Cert.Pre_in_format.fn at h
  haveI : Subsingleton Cert.Pre_in_format.S_.Idx := ⟨fun a b => funext fun i => i.elim0⟩
  obtain ⟨hx, hy⟩ := IntOp.andi_eq_one.1 h
  exact ⟨fun i => inFormat (Host.reduce_andi_all _ _ _ _ _ hx i), fun i => inFormat (Host.reduce_andi_all _ _ _ _ _ hy i)⟩

end Cert.Wgrad

end
-- ==== Proof.AlgI.lean ====
/- The kernel's results are the reference's, in the extended reals, for inputs in bfloat16's range. -/
module

public import proofs.«01_k».proof.Proof.ColumnI
public import proofs.«01_k».proof.Proof.HostI
public import proofs.«01_k».proof.Proof.RefAt
public import proofs.«01_k».proof.Proof.Range
public import proofs.«01_k».proof.Proof.Gen.Pre_in_format
public import proofs.«01_k».proof.Defs

@[expose] public section

noncomputable section

namespace Cert.Wgrad

open Idealize.ShloMosaic Idealize.ShloMosaic.TcCoe Idealize.SL.Sem
open Cert.ReferenceIdeal.Gen (k0_pay3 k0_pay5 k0_pay6 k0_pay7 k0_pay8 k0_pay10 k0_pay11 k0_pay12)
open Cert.ReferenceIdeal.Hand (scale0_at codes0_at scale1_at codes1_at grad_at G3 G4 G5 G6 G7)
open Cert.KernelIdeal.Hand (inX inY inXT inXS inG outX outXS outXT outY outYS outG vcol lox hix loy hiy ix2_ex ix2_ex1)

/-! ## The arrays both programs compute on -/

/-- Widening is the identity. -/
theorem widen_eq {s : Shape} (X : FVec Ideal s .bf16) : (extf .f32 X (by decide) : FVec Ideal s .f32) = X := rfl
/-- The reference's x as 4096 rows, -/
theorem rows_x (x : Vec Ideal Cert.ReferenceIdeal.S4x1024x1408 .bf16) :
    k0_pay3 x = shapeCast Cert.ReferenceIdeal.S4096x1408 x Cert.ReferenceIdeal.Gen.shapeCasts_S4x1024x1408_S4096x1408 := widen_eq _
/-- and its dy. -/
theorem rows_y (y : Vec Ideal Cert.ReferenceIdeal.S4x1024x4224 .bf16) :
    k0_pay7 y = shapeCast Cert.ReferenceIdeal.S4096x4224 y Cert.ReferenceIdeal.Gen.shapeCasts_S4x1024x4224_S4096x4224 := widen_eq _
/-- A reshape of entries in range has entries in range. -/
theorem cast_inFormat {s t : Shape} {x : s.Idx → EReal} (hx : ∀ i, InFormat (x i)) (h : s.ShapeCasts t) (j : t.Idx) :
    InFormat (shapeCast t x h j) := hx _

/-! ## The kernel's arrays at an index, its inputs named -/

section Kernel

variable (V : Dev Cert.KernelIdeal.nD → Valuation Cert.KernelIdeal.τ Cert.KernelIdeal.sig (Elt Ideal)) (c : Dev Cert.KernelIdeal.nD)

/-- An x code, -/
theorem outX_at {X : FVec Ideal Cert.KernelIdeal.S4096x1408 .f32} (h : inX V c = X) (k : Fin 4096) (j : Fin 1408) :
    outX V c (ix2 k j) = code lox hix (invK (colAmax (fun k => X (ix2 k j)) * cx)) (X (ix2 k j)) := by subst h; rfl
/-- an x scale, -/
theorem outXS_at {X : FVec Ideal Cert.KernelIdeal.S4096x1408 .f32} (h : inX V c = X) (j : Fin 1408) :
    outXS V c (ix2 0 j) = scaleK (colAmax (fun k => X (ix2 k j)) * cx) := by subst h; rfl
/-- a dy code, -/
theorem outY_at {X : FVec Ideal Cert.KernelIdeal.S4096x4224 .f32} (h : inY V c = X) (k : Fin 4096) (j : Fin 4224) :
    outY V c (ix2 k j) = code loy hiy (invK (colAmax (fun k => X (ix2 k j)) * cy)) (X (ix2 k j)) := by subst h; rfl
/-- a dy scale, -/
theorem outYS_at {X : FVec Ideal Cert.KernelIdeal.S4096x4224 .f32} (h : inY V c = X) (j : Fin 4224) :
    outYS V c (ix2 0 j) = scaleK (colAmax (fun k => X (ix2 k j)) * cy) := by subst h; rfl
/-- and an entry of the gradient. -/
theorem outG_at (i : Fin 1408) (j : Fin 4224) :
    outG V c (ix2 i j) = inG V c (ix2 i j) + (∑ k : Fin 4096, inXT V c (ix2 i k) * outY V c (ix2 k j)) * (inXS V c (ix2 i 0) * outYS V c (ix2 0 j)) := rfl

/-! ## Each is the reference's -/

variable {x : Vec Ideal Cert.ReferenceIdeal.S4x1024x1408 .bf16} {y : Vec Ideal Cert.ReferenceIdeal.S4x1024x4224 .bf16}

/-- The x codes, -/
theorem outX_eq (h : inX V c = k0_pay3 (F := Ideal) x) (hb : ∀ i, InFormat (x i)) : outX V c = k0_pay6 x := by
  have hb : ∀ i, InFormat (k0_pay3 x i) := fun i => by rw [rows_x]; exact cast_inFormat hb _ i
  funext z
  obtain ⟨k, j, rfl⟩ : ∃ (k : Fin 4096) (j : Fin 1408), z = ix2 k j := ix2_ex z
  rw [codes0_at, outX_at V c h, (scale_x fun k => hb (ix2 k j)).2, lox, hix, lox_eq, hix_eq]
/-- their scales, -/
theorem outXS_eq (h : inX V c = k0_pay3 (F := Ideal) x) (hb : ∀ i, InFormat (x i)) (j : Fin 1408) : outXS V c (ix2 0 j) = k0_pay5 x (ix1 j) := by
  have hb : ∀ i, InFormat (k0_pay3 x i) := fun i => by rw [rows_x]; exact cast_inFormat hb _ i
  rw [scale0_at, outXS_at V c h, (scale_x fun k => hb (ix2 k j)).1]
/-- the dy codes, -/
theorem outY_eq (h : inY V c = k0_pay7 (F := Ideal) y) (hb : ∀ i, InFormat (y i)) : outY V c = k0_pay11 (k0_pay7 y) (k0_pay8 y) := by
  have hb : ∀ i, InFormat (k0_pay7 y i) := fun i => by rw [rows_y]; exact cast_inFormat hb _ i
  funext z
  obtain ⟨k, j, rfl⟩ : ∃ (k : Fin 4096) (j : Fin 4224), z = ix2 k j := ix2_ex z
  rw [codes1_at, outY_at V c h, (scale_y fun k => hb (ix2 k j)).2, loy, hiy, loy_eq, hiy_eq]
/-- and theirs. -/
theorem outYS_eq (h : inY V c = k0_pay7 (F := Ideal) y) (hb : ∀ i, InFormat (y i)) (j : Fin 4224) :
    outYS V c (ix2 0 j) = k0_pay10 (k0_pay8 y) (ix1 j) := by
  have hb : ∀ i, InFormat (k0_pay7 y i) := fun i => by rw [rows_y]; exact cast_inFormat hb _ i
  rw [scale1_at, outYS_at V c h, (scale_y fun k => hb (ix2 k j)).1]

end Kernel

/-- A row of scales as a column, -/
theorem cast_col (v : FVec Ideal Cert.KernelIdeal.S1x1408 .f32) (i : Fin 1408) :
    shapeCast Cert.KernelIdeal.S1408x1 v Cert.KernelIdeal.Gen.shapeCasts_S1x1408_S1408x1 (ix2 i 0) = v (ix2 0 i) := by
  pointwise []
/-- as a vector, -/
theorem cast_vec0 (v : FVec Ideal Cert.KernelIdeal.S1x1408 .f32) (i : Fin 1408) :
    shapeCast Cert.KernelIdeal.S1408 v Cert.KernelIdeal.Gen.shapeCasts_S1x1408_S1408 (ix1 i) = v (ix2 0 i) := by
  pointwise []
/-- and the same of the dy scales. -/
theorem cast_vec1 (v : FVec Ideal Cert.KernelIdeal.S1x4224 .f32) (i : Fin 4224) :
    shapeCast Cert.KernelIdeal.S4224 v Cert.KernelIdeal.Gen.shapeCasts_S1x4224_S4224 (ix1 i) = v (ix2 0 i) := by
  pointwise []
/-- Every index of a rank-1 array is a number. -/
theorem ix1_ex {n : ℕ} (z : (⟨1, ![n]⟩ : Shape).Idx) : ∃ j : Fin n, z = ix1 j := ⟨z 0, eq_ix1 z⟩

/-! ## The reference's results, spelt out -/

section Reference
variable (x : Vec Ideal Cert.ReferenceIdeal.S4x1024x1408 .bf16) (y : Vec Ideal Cert.ReferenceIdeal.S4x1024x4224 .bf16) (g : Vec Ideal Cert.ReferenceIdeal.S1408x4224 .f32)
open Cert.ReferenceIdeal.Gen Cert.ReferenceIdeal.Hand

/-- Reading the whole of the x block reads x, -/
theorem ldx : View.ld x r0_0 = x := View.ld_unit_zero hz0 _ x
/-- and of the dy block dy. -/
theorem ldy : View.ld y r0_1 = y := View.ld_unit_zero hz1 _ y
/-- The gradient, -/
theorem G3_eq : G3 x y g = k0_pay12 (k0_pay5 x) (k0_pay6 x) (k0_pay7 y) (k0_pay8 y) g := by
  unfold G3 k0_pay13 k0_pay14 k0_pay15 k0_pay16; rw [ldx, ldy]
/-- the x codes, -/
theorem G4_eq : G4 x y g = shapeCast Cert.ReferenceIdeal.S4x1024x1408 (k0_pay6 x) shapeCasts_S4096x1408_S4x1024x1408 := by
  unfold G4 k0_pay14; rw [ldx]; rfl
/-- the x scales, -/
theorem G5_eq : G5 x y g = k0_pay5 x := by
  unfold G5 k0_pay13; rw [ldx]
/-- the dy codes -/
theorem G6_eq : G6 x y g = shapeCast Cert.ReferenceIdeal.S4x1024x4224 (k0_pay11 (k0_pay7 y) (k0_pay8 y)) shapeCasts_S4096x4224_S4x1024x4224 := by
  unfold G6 k0_pay15 k0_pay16; rw [ldy]; rfl
/-- and the dy scales, each of the arguments. -/
theorem G7_eq : G7 x y g = k0_pay10 (k0_pay8 y) := by
  unfold G7 k0_pay16; rw [ldy]
end Reference

/-! ## The kernel's results -/

section Results

open Cert.KernelIdeal Cert.KernelIdeal.Hand Cert.KernelIdeal.Gen

variable (m : (ℓ : Loc nD τ sig) → Buf (Elt Ideal) ℓ) (c : Dev nD) (A : Arr1 (F := Ideal) c)
  {x : Vec Ideal Cert.ReferenceIdeal.S4x1024x1408 .bf16} {y : Vec Ideal Cert.ReferenceIdeal.S4x1024x4224 .bf16} {g : Vec Ideal Cert.ReferenceIdeal.S1408x4224 .f32}

/-- Region 0's input is the reference's x, -/
theorem inX_eq (hx : m ((c : Thread nD τ).loc main_arg0) = x) : inX (V1 m) c = Cert.ReferenceIdeal.Gen.k0_pay3 (F := Ideal) x := by
  rw [rows_x, ← hx]; exact V1_v0 m c
/-- region 1's first input its dy, -/
theorem inY_eq (hy : m ((c : Thread nD τ).loc main_arg1) = y) : inY (W3 m) c = Cert.ReferenceIdeal.Gen.k0_pay7 (F := Ideal) y := by
  rw [rows_y, ← hy]; exact W3_v1 m c
/-- the second region 0's transposed codes, -/
theorem inXT_eq : inXT (W3 m) c = outXT (V1 m) c := (W3_v2_2 m c).trans (arr0_3 _ c)
/-- and the third region 0's scales. -/
theorem inXS_eq (i : Fin 1408) : inXS (W3 m) c (ix2 i 0) = outXS (V1 m) c (ix2 0 i) := by
  have h : inXS (W3 m) c = shapeCast S1408x1 (outXS (V1 m) c) shapeCasts_S1x1408_S1408x1 := by
    rw [← arr0_2, ← W2_v2_1]; exact W3_v3 m c
  rw [h]; exact cast_col _ i
/-- The transposed codes at an entry. -/
theorem outXT_at (i : Fin 1408) (k : Fin 4096) : outXT (V1 m) c (ix2 i k) = outX (V1 m) c (ix2 k i) := rfl

/-- The gradient, -/
theorem res0 (hx : m ((c : Thread nD τ).loc main_arg0) = x) (hy : m ((c : Thread nD τ).loc main_arg1) = y) (hg : m ((c : Thread nD τ).loc main_arg2) = g)
    (bx : ∀ i, InFormat (x i)) (by' : ∀ i, InFormat (y i)) : W5 m false c A main_v4_0 = G3 x y g := by
  refine (W5_v4_0 m false c A).trans ((arr1_4 (W3 m) c).trans ?_)
  rw [G3_eq]
  funext z
  obtain ⟨i, j, rfl⟩ : ∃ (i : Fin 1408) (j : Fin 4224), z = ix2 i j := ix2_ex z
  have hG : inG (W3 m) c = g := (W3_arg2 m c).trans hg
  rw [grad_at, outG_at, inXS_eq, outXS_eq _ c (inX_eq m c hx) bx, outYS_eq _ c (inY_eq m c hy) by', outY_eq _ c (inY_eq m c hy) by', inXT_eq, hG]
  simp only [outXT_at, outX_eq _ c (inX_eq m c hx) bx]
/-- the x codes, -/
theorem res1 (hx : m ((c : Thread nD τ).loc main_arg0) = x) (bx : ∀ i, InFormat (x i)) : W5 m false c A main_v5 = G4 x y g := by
  rw [G4_eq, ← outX_eq _ c (inX_eq m c hx) bx, ← arr0_1, ← W4_v2_0 m false c A]
  exact W5_v5 m false c A
/-- the x scales, -/
theorem res2 (hx : m ((c : Thread nD τ).loc main_arg0) = x) (bx : ∀ i, InFormat (x i)) : W5 m false c A main_v6 = G5 x y g := by
  rw [G5_eq]
  refine (W5_v6 m false c A).trans ?_
  rw [W4_v2_1, arr0_2]
  funext z
  obtain ⟨j, rfl⟩ : ∃ j : Fin 1408, z = ix1 j := ix1_ex z
  exact (cast_vec0 _ j).trans (outXS_eq _ c (inX_eq m c hx) bx j)
/-- the dy codes, -/
theorem res3 (hy : m ((c : Thread nD τ).loc main_arg1) = y) (by' : ∀ i, InFormat (y i)) : W5 m false c A main_v7 = G6 x y g := by
  rw [G6_eq, ← outY_eq _ c (inY_eq m c hy) by', ← arr1_5]
  refine (W5_v7 m false c A).trans ?_
  rw [W4_v4_1]; rfl
/-- and the dy scales. -/
theorem res4 (hy : m ((c : Thread nD τ).loc main_arg1) = y) (by' : ∀ i, InFormat (y i)) : W5 m false c A main_v8 = G7 x y g := by
  rw [G7_eq]
  refine (W5_v8 m false c A).trans ?_
  rw [W4_v4_2]
  show shapeCast S4224 ((dat1 (W3 m) c).arrAt 6 cfg1.N) shapeCasts_S1x4224_S4224 = _
  rw [arr1_6]
  funext z
  obtain ⟨j, rfl⟩ : ∃ j : Fin 4224, z = ix1 j := ix1_ex z
  exact (cast_vec1 _ j).trans (outYS_eq _ c (inY_eq m c hy) by' j)

end Results

/-- The claim: the kernel's five results are the reference's. -/
theorem algebraic : Cert.algebraic_KernelIdeal_ReferenceIdeal_pre_in_format (hKernelIdeal := Cert.KernelIdeal.Gen.facts) (hReferenceIdeal := Cert.ReferenceIdeal.Gen.facts)
    (hPre_in_format := Cert.Pre_in_format.Gen.facts) := by
  intro m ρ m' ρ' hpre hargs
  refine ⟨fun c => G3 (m (c.tc.loc Cert.KernelIdeal.main_arg0)) (m (c.tc.loc Cert.KernelIdeal.main_arg1)) (m (c.tc.loc Cert.KernelIdeal.main_arg2)),
    fun c => G4 (m (c.tc.loc Cert.KernelIdeal.main_arg0)) (m (c.tc.loc Cert.KernelIdeal.main_arg1)) (m (c.tc.loc Cert.KernelIdeal.main_arg2)),
    fun c => G5 (m (c.tc.loc Cert.KernelIdeal.main_arg0)) (m (c.tc.loc Cert.KernelIdeal.main_arg1)) (m (c.tc.loc Cert.KernelIdeal.main_arg2)),
    fun c => G6 (m (c.tc.loc Cert.KernelIdeal.main_arg0)) (m (c.tc.loc Cert.KernelIdeal.main_arg1)) (m (c.tc.loc Cert.KernelIdeal.main_arg2)),
    fun c => G7 (m (c.tc.loc Cert.KernelIdeal.main_arg0)) (m (c.tc.loc Cert.KernelIdeal.main_arg1)) (m (c.tc.loc Cert.KernelIdeal.main_arg2)), ?_, ?_⟩
  · open Cert.KernelIdeal Cert.KernelIdeal.Hand in
    refine (θ_run defs _ _).mono (fun r h c => ?_) (run m ρ false fun c => obligation1 (W3 m) columnLocal c)
    obtain ⟨A, hA⟩ := h.1 c
    obtain ⟨bx, by'⟩ := in_format_all (hpre c)
    exact ⟨(hA _ (mem_uc main_v4_0 rfl)).trans (res0 m c A rfl rfl rfl bx by'),
      (hA _ (mem_uc main_v5 rfl)).trans (res1 m c A rfl bx),
      (hA _ (mem_uc main_v6 rfl)).trans (res2 m c A rfl bx),
      (hA _ (mem_uc main_v7 rfl)).trans (res3 m c A rfl by'),
      (hA _ (mem_uc main_v8 rfl)).trans (res4 m c A rfl by'),
      (hA _ (mem_uc main_arg0 rfl)).trans (W5_arg m false c A main_arg0 (by decide) (by decide) (by decide) (by decide) (by decide)),
      (hA _ (mem_uc main_arg1 rfl)).trans (W5_arg m false c A main_arg1 (by decide) (by decide) (by decide) (by decide) (by decide)),
      (hA _ (mem_uc main_arg2 rfl)).trans (W5_arg m false c A main_arg2 (by decide) (by decide) (by decide) (by decide) (by decide))⟩
  · refine (θ_run _ _ _).mono (fun r h c => ?_) (Cert.ReferenceIdeal.Hand.run m' ρ')
    obtain ⟨h0, h1, h2, h3, h4, k⟩ := h c
    obtain ⟨e0, e1, e2⟩ := hargs c
    rw [e0, e1, e2] at h0 h1 h2 h3 h4
    exact ⟨h0, h1, h2, h3, h4, k⟩

end Cert.Wgrad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_format
public import proofs.«01_k».proof.Proof.RunK
public import proofs.«01_k».proof.Proof.RunI
public import proofs.«01_k».proof.Proof.AlgI
public import Idealize.ShloMosaic.Adequacy
public import Idealize.ShloMosaic.Init

@[expose] public section

noncomputable section

namespace Cert.Proof

open Idealize.ShloMosaic Idealize.SL.Sem Cert.Kernel

/-- The certificate: the frames of the kernel, of its idealisation and of the reference, the idealisation's faithfulness, and, for
    inputs in bfloat16's range, the idealisation's results equal to the reference's. -/
theorem claim : Cert.Claim := ⟨Cert.Kernel.Gen.facts, Cert.KernelIdeal.Gen.facts, Cert.ReferenceIdeal.Gen.facts, Cert.Pre_in_format.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, Cert.Wgrad.algebraic⟩

end Cert.Proof

end
